-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "two_log2e" .f32 0x4038AA3B#32 ((2 * (Real.log 2)⁻¹ : ℝ) : EReal)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩

class Facts : Prop where
  transposes_S64x64_S64x64_1_0 : S64x64.Transposes [1, 0] S64x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  reducesTo_S8192x8192_S_d0_1 : S8192x8192.ReducesTo [0, 1] S_
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S64x64_S8192x64_1_0_0_1_n_n_wf : DotDims.WF S8192x64 S64x64 S8192x64 [1] [0] [0] [1] [] []

variable [Facts]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def fn_part1 {F : FTy → Type} [FloatOps F] (main_arg2 : FVec F S8192x8192 .f32) (main_arg3 : FVec F S8192x8192 .f32) (main_v13 : IVec S8192 1) (main_v17 : IVec S8192 1) (main_v18 : FVec F S8192x8192 .f32) (main_cst_3 : FVec F S_ .f32) : IVec S8192x8192 1 :=
  let main_v19 : FVec F S_ .f32 := (fun x v => Host.reduceAdd x v reducesTo_S8192x8192_S_d0_1 h_S_) main_v18 main_cst_3
  let main_cst_4 : FVec F S_ .f32 := constant S_ .f32 0x00000000#32
  let main_v20 : IVec S_ 1 := cmpf .ogt main_v19 main_cst_4
  let main_v21 : IVec S8192x1 1 := broadcastInDim S8192x1 ![0] bcast_S8192_S8192x1_0 main_v13
  let main_v22 : IVec S1x8192 1 := broadcastInDim S1x8192 ![1] bcast_S8192_S1x8192_1 main_v17
  let main_v23 : IVec S8192x8192 1 := broadcastInDim S8192x8192 ![0, 1] bcast_S8192x1_S8192x8192_0_1 main_v21
  let main_v24 : IVec S8192x8192 1 := broadcastInDim S8192x8192 ![0, 1] bcast_S1x8192_S8192x8192_0_1 main_v22
  let main_v25 : IVec S8192x8192 1 := andi main_v23 main_v24
  let main_cst_5 : FVec F S_ .f32 := constant S_ .f32 0x00000000#32
  let main_v26 : FVec F S8192x8192 .f32 := broadcastInDim S8192x8192 ![] bcast_S_S8192x8192 main_cst_5
  let main_v27 : IVec S8192x8192 1 := cmpf .oge main_arg2 main_v26
  let main_v28 : IVec S8192x8192 1 := andi main_v25 main_v27
  let main_cst_6 : FVec F S_ .f32 := constant S_ .f32 0x7F800000#32
  let main_v29 : FVec F S8192x8192 .f32 := broadcastInDim S8192x8192 ![] bcast_S_S8192x8192 main_cst_6
  let main_v30 : IVec S8192x8192 1 := cmpf .olt main_arg2 main_v29
  let main_v31 : IVec S8192x8192 1 := andi main_v28 main_v30
  let main_cst_7 : FVec F S_ .f32 := constant S_ .f32 0x00000000#32
  let main_v32 : FVec F S8192x8192 .f32 := broadcastInDim S8192x8192 ![] bcast_S_S8192x8192 main_cst_7
  let main_v33 : IVec S8192x8192 1 := cmpf .oge main_arg3 main_v32
  let main_v34 : IVec S8192x8192 1 := andi main_v31 main_v33
  let main_v35 : IVec S8192x8192 1 := broadcastInDim S8192x8192 ![] bcast_S_S8192x8192 main_v20
  let main_v36 : IVec S8192x8192 1 := andi main_v34 main_v35
  main_v36

def fn {F : FTy → Type} [FloatOps F] (main_arg0 : FVec F S8192x64 .f32) (main_arg1 : FVec F S8192x64 .f32) (main_arg2 : FVec F S8192x8192 .f32) (main_arg3 : FVec F S8192x8192 .f32) (main_arg4 : FVec F S64x64 .f32) (main_arg5 : FVec F S64 .f32) : IVec S8192x8192 1 :=
  let main_v0 : FVec F S64x64 .f32 := (transpose S64x64 [1, 0] · transposes_S64x64_S64x64_1_0) main_arg4
  let main_v1 : FVec F S8192x64 .f32 := (fun l r => Host.dotGeneral dot_S8192x64_S64x64_S8192x64_1_0_0_1_n_n none l r) main_arg0 main_v0
  let main_v2 : FVec F S1x64 .f32 := broadcastInDim S1x64 ![1] bcast_S64_S1x64_1 main_arg5
  let main_v3 : FVec F S8192x64 .f32 := broadcastInDim S8192x64 ![0, 1] bcast_S1x64_S8192x64_0_1 main_v2
  let main_v4 : FVec F S8192x64 .f32 := addf main_v1 main_v3
  let main_v5 : FVec F S64x64 .f32 := (transpose S64x64 [1, 0] · transposes_S64x64_S64x64_1_0) main_arg4
  let main_v6 : FVec F S8192x64 .f32 := (fun l r => Host.dotGeneral dot_S8192x64_S64x64_S8192x64_1_0_0_1_n_n none l r) main_arg1 main_v5
  let main_v7 : FVec F S1x64 .f32 := broadcastInDim S1x64 ![1] bcast_S64_S1x64_1 main_arg5
  let main_v8 : FVec F S8192x64 .f32 := broadcastInDim S8192x64 ![0, 1] bcast_S1x64_S8192x64_0_1 main_v7
  let main_v9 : FVec F S8192x64 .f32 := addf main_v6 main_v8
  let main_v10 : FVec F S8192x64 .f32 := mulf main_v4 main_v4
  let main_cst : FVec F S_ .f32 := constant S_ .f32 0x00000000#32
  let main_v11 : FVec F S8192 .f32 := (fun x v => Host.reduceAdd x v reducesTo_S8192x64_S8192_d1 h_S_) main_v10 main_cst
  let main_cst_0 : FVec F S_ .f32 := constant S_ .f32 0x00000000#32
  let main_v12 : FVec F S8192 .f32 := broadcastInDim S8192 ![] bcast_S_S8192 main_cst_0
  let main_v13 : IVec S8192 1 := cmpf .ogt main_v11 main_v12
  let main_v14 : FVec F S8192x64 .f32 := mulf main_v9 main_v9
  let main_cst_1 : FVec F S_ .f32 := constant S_ .f32 0x00000000#32
  let main_v15 : FVec F S8192 .f32 := (fun x v => Host.reduceAdd x v reducesTo_S8192x64_S8192_d1 h_S_) main_v14 main_cst_1
  let main_cst_2 : FVec F S_ .f32 := constant S_ .f32 0x00000000#32
  let main_v16 : FVec F S8192 .f32 := broadcastInDim S8192 ![] bcast_S_S8192 main_cst_2
  let main_v17 : IVec S8192 1 := cmpf .ogt main_v15 main_v16
  let main_v18 : FVec F S8192x8192 .f32 := addf main_arg2 main_arg3
  let main_cst_3 : FVec F S_ .f32 := constant S_ .f32 0x00000000#32
  fn_part1 (F := F) main_arg2 main_arg3 main_v13 main_v17 main_v18 main_cst_3
-- ==== Kernel.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S1x64 : Shape := ⟨2, ![1, 64]⟩
abbrev S1x1 : Shape := ⟨2, ![1, 1]⟩
abbrev S_ : Shape := ⟨0, ![]⟩
abbrev S1 : Shape := ⟨1, ![1]⟩
abbrev S6x256x2048 : Shape := ⟨3, ![6, 256, 2048]⟩
abbrev S6 : Shape := ⟨1, ![6]⟩
abbrev S1x256x2048 : Shape := ⟨3, ![1, 256, 2048]⟩
abbrev S256x2048 : Shape := ⟨2, ![256, 2048]⟩
abbrev S8192 : Shape := ⟨1, ![8192]⟩
abbrev S8192x1 : Shape := ⟨2, ![8192, 1]⟩
abbrev S256x64 : Shape := ⟨2, ![256, 64]⟩
abbrev S2048x64 : Shape := ⟨2, ![2048, 64]⟩
abbrev S1x1x1 : Shape := ⟨3, ![1, 1, 1]⟩

abbrev nBuf : Space → Nat
  | .hbm => 9
  | .vmem => 8
  | .smem => 4
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S8192x8192, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x1, .f32⟩
  | .hbm, ⟨8, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S64x64, .f32⟩
  | .local _ .vmem, ⟨3, _⟩ => ⟨S1x64, .f32⟩
  | .local _ .vmem, ⟨4, _⟩ => ⟨S8192x64, .bf16⟩
  | .local _ .vmem, ⟨5, _⟩ => ⟨S8192x64, .bf16⟩
  | .local _ .vmem, ⟨6, _⟩ => ⟨S6x256x2048, .f32⟩
  | .local _ .vmem, ⟨7, _⟩ => ⟨S6x256x2048, .f32⟩
  | .local _ .smem, ⟨0, _⟩ => ⟨S1x1, .f32⟩
  | .local _ .smem, ⟨1, _⟩ => ⟨S1, .i32⟩
  | .local _ .smem, ⟨2, _⟩ => ⟨S1, .f32⟩
  | .local _ .smem, ⟨3, _⟩ => ⟨S1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scoped0 : Ref sig .tc := ⟨.vmem, 6, rfl⟩
abbrev cc0_scoped2 : Ref sig .tc := ⟨.vmem, 7, rfl⟩
abbrev cc0_stg4_0 : Ref sig .tc := ⟨.smem, 0, rfl⟩
abbrev cc0_scratch2 : Ref sig .tc := ⟨.smem, 1, rfl⟩
abbrev cc0_scratch3 : Ref sig .tc := ⟨.smem, 2, rfl⟩
abbrev cc0_scratch4 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 : Fin 1 → Nat :=
  let c0_i32_61_r0 : BitVec 32 := 0#32
  let c6_i32_r0 : BitVec 32 := 6#32
  let v69_r0 : BitVec 32 := Scalar.remui c0_i32_61_r0 c6_i32_r0
  ![v69_r0.toNat]
def k0_off2 : Fin 3 → Nat :=
  let c0_i32_61_r0 : BitVec 32 := 0#32
  let c6_i32_r0 : BitVec 32 := 6#32
  let v69_r0 : BitVec 32 := Scalar.remui c0_i32_61_r0 c6_i32_r0
  let c0_i32_62_r0 : BitVec 32 := 0#32
  let c0_i32_63_r0 : BitVec 32 := 0#32
  ![v69_r0.toNat, 0, 0]
def k0_cond1 : BitVec 1 :=
  let true_78_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let c0_i32_76_r0 : BitVec 32 := 0#32
  let v83_r0 : BitVec 1 := Scalar.cmpi .ne v17_r0 c0_i32_76_r0
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let c0_i32_77_r0 : BitVec 32 := 0#32
  let v84_r0 : BitVec 1 := Scalar.cmpi .ne v18_r0 c0_i32_77_r0
  let v85_r0 : BitVec 1 := Scalar.ori v83_r0 v84_r0
  let v86_r0 : BitVec 1 := Scalar.andi true_78_r0 v85_r0
  let true_79_r0 : BitVec 1 := 1#1
  let v87_r0 : BitVec 1 := Scalar.andi v86_r0 true_79_r0
  let v88_r0 : BitVec 32 := Scalar.extui v87_r0
  let c0_i32_80_r0 : BitVec 32 := 0#32
  let v89_r0 : BitVec 1 := Scalar.cmpi .ne v88_r0 c0_i32_80_r0
  v89_r0

def k0_off3 : Fin 1 → Nat :=
  let c0_i32_66_r0 : BitVec 32 := 0#32
  let c1_i32_67_r0 : BitVec 32 := 1#32
  let v75_r0 : BitVec 32 := Scalar.addi c0_i32_66_r0 c1_i32_67_r0
  let c6_i32_191_r0 : BitVec 32 := 6#32
  let v237_r0 : BitVec 32 := Scalar.remui v75_r0 c6_i32_191_r0
  ![v237_r0.toNat]
def k0_off4 : Fin 3 → Nat :=
  let c0_i32_66_r0 : BitVec 32 := 0#32
  let c1_i32_67_r0 : BitVec 32 := 1#32
  let v75_r0 : BitVec 32 := Scalar.addi c0_i32_66_r0 c1_i32_67_r0
  let c6_i32_191_r0 : BitVec 32 := 6#32
  let v237_r0 : BitVec 32 := Scalar.remui v75_r0 c6_i32_191_r0
  let c0_i32_192_r0 : BitVec 32 := 0#32
  let c0_i32_193_r0 : BitVec 32 := 0#32
  ![v237_r0.toNat, 0, 0]
def k0_off5 : Fin 2 → Nat :=
  let c256_i32_r0 : BitVec 32 := 256#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v238_r0 : BitVec 32 := Scalar.muli c256_i32_r0 v17_r0
  let c2048_i32_r0 : BitVec 32 := 2048#32
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let v239_r0 : BitVec 32 := Scalar.muli c2048_i32_r0 v18_r0
  ![v238_r0.toNat, v239_r0.toNat]
def k0_cond2 : BitVec 1 :=
  let true_84_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let c0_i32_82_r0 : BitVec 32 := 0#32
  let v92_r0 : BitVec 1 := Scalar.cmpi .ne v17_r0 c0_i32_82_r0
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let c0_i32_83_r0 : BitVec 32 := 0#32
  let v93_r0 : BitVec 1 := Scalar.cmpi .ne v18_r0 c0_i32_83_r0
  let v94_r0 : BitVec 1 := Scalar.ori v92_r0 v93_r0
  let v95_r0 : BitVec 1 := Scalar.andi true_84_r0 v94_r0
  let true_85_r0 : BitVec 1 := 1#1
  let v96_r0 : BitVec 1 := Scalar.andi v95_r0 true_85_r0
  let v97_r0 : BitVec 32 := Scalar.extui v96_r0
  let c0_i32_86_r0 : BitVec 32 := 0#32
  let v98_r0 : BitVec 1 := Scalar.cmpi .ne v97_r0 c0_i32_86_r0
  v98_r0

def k0_off6 : Fin 1 → Nat :=
  let c0_i32_74_r0 : BitVec 32 := 0#32
  let c1_i32_75_r0 : BitVec 32 := 1#32
  let v82_r0 : BitVec 32 := Scalar.addi c0_i32_74_r0 c1_i32_75_r0
  let c6_i32_191_r0 : BitVec 32 := 6#32
  let v237_r0 : BitVec 32 := Scalar.remui v82_r0 c6_i32_191_r0
  ![v237_r0.toNat]
def k0_off7 : Fin 3 → Nat :=
  let c0_i32_74_r0 : BitVec 32 := 0#32
  let c1_i32_75_r0 : BitVec 32 := 1#32
  let v82_r0 : BitVec 32 := Scalar.addi c0_i32_74_r0 c1_i32_75_r0
  let c6_i32_191_r0 : BitVec 32 := 6#32
  let v237_r0 : BitVec 32 := Scalar.remui v82_r0 c6_i32_191_r0
  let c0_i32_192_r0 : BitVec 32 := 0#32
  let c0_i32_193_r0 : BitVec 32 := 0#32
  ![v237_r0.toNat, 0, 0]
def k0_off8 : Fin 2 → Nat :=
  let c256_i32_r0 : BitVec 32 := 256#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v238_r0 : BitVec 32 := Scalar.muli c256_i32_r0 v17_r0
  let c2048_i32_r0 : BitVec 32 := 2048#32
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let v239_r0 : BitVec 32 := Scalar.muli c2048_i32_r0 v18_r0
  ![v238_r0.toNat, v239_r0.toNat]
def k0_cond3 : BitVec 1 :=
  let true_88_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c0_i32_23_r0 : BitVec 32 := 0#32
  let v27_r0 : BitVec 32 := Scalar.addi v26_r0 c0_i32_23_r0
  let c0_i32_14_r0 : BitVec 32 := 0#32
  let v17_r0 : BitVec 32 := Scalar.addi v16_r0 c0_i32_14_r0
  let v101_r0 : BitVec 1 := Scalar.cmpi .ne v27_r0 v17_r0
  let c0_i32_19_r0 : BitVec 32 := 0#32
  let v22_r0 : BitVec 32 := Scalar.select v21_r0 c0_i32_19_r0 v20_r0
  let c0_i32_24_r0 : BitVec 32 := 0#32
  let v28_r0 : BitVec 32 := Scalar.addi v22_r0 c0_i32_24_r0
  let c0_i32_15_r0 : BitVec 32 := 0#32
  let v18_r0 : BitVec 32 := Scalar.addi v13_r0 c0_i32_15_r0
  let v102_r0 : BitVec 1 := Scalar.cmpi .ne v28_r0 v18_r0
  let v103_r0 : BitVec 1 := Scalar.ori v101_r0 v102_r0
  let v104_r0 : BitVec 1 := Scalar.andi true_88_r0 v103_r0
  let true_89_r0 : BitVec 1 := 1#1
  let v105_r0 : BitVec 1 := Scalar.andi v104_r0 true_89_r0
  let v106_r0 : BitVec 32 := Scalar.extui v105_r0
  let c0_i32_90_r0 : BitVec 32 := 0#32
  let v107_r0 : BitVec 1 := Scalar.cmpi .ne v106_r0 c0_i32_90_r0
  v107_r0

def k0_off9 : Fin 1 → Nat :=
  let true_78_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let c0_i32_76_r0 : BitVec 32 := 0#32
  let v83_r0 : BitVec 1 := Scalar.cmpi .ne v17_r0 c0_i32_76_r0
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let c0_i32_77_r0 : BitVec 32 := 0#32
  let v84_r0 : BitVec 1 := Scalar.cmpi .ne v18_r0 c0_i32_77_r0
  let v85_r0 : BitVec 1 := Scalar.ori v83_r0 v84_r0
  let v86_r0 : BitVec 1 := Scalar.andi true_78_r0 v85_r0
  let c0_i32_66_r0 : BitVec 32 := 0#32
  let c1_i32_67_r0 : BitVec 32 := 1#32
  let v75_r0 : BitVec 32 := Scalar.addi c0_i32_66_r0 c1_i32_67_r0
  let c1_i32_81_r0 : BitVec 32 := 1#32
  let v90_r0 : BitVec 32 := Scalar.addi v75_r0 c1_i32_81_r0
  let v91_r0 : BitVec 32 := Scalar.select v86_r0 v90_r0 v75_r0
  let c6_i32_191_r0 : BitVec 32 := 6#32
  let v237_r0 : BitVec 32 := Scalar.remui v91_r0 c6_i32_191_r0
  ![v237_r0.toNat]
def k0_off10 : Fin 3 → Nat :=
  let true_78_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let c0_i32_76_r0 : BitVec 32 := 0#32
  let v83_r0 : BitVec 1 := Scalar.cmpi .ne v17_r0 c0_i32_76_r0
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let c0_i32_77_r0 : BitVec 32 := 0#32
  let v84_r0 : BitVec 1 := Scalar.cmpi .ne v18_r0 c0_i32_77_r0
  let v85_r0 : BitVec 1 := Scalar.ori v83_r0 v84_r0
  let v86_r0 : BitVec 1 := Scalar.andi true_78_r0 v85_r0
  let c0_i32_66_r0 : BitVec 32 := 0#32
  let c1_i32_67_r0 : BitVec 32 := 1#32
  let v75_r0 : BitVec 32 := Scalar.addi c0_i32_66_r0 c1_i32_67_r0
  let c1_i32_81_r0 : BitVec 32 := 1#32
  let v90_r0 : BitVec 32 := Scalar.addi v75_r0 c1_i32_81_r0
  let v91_r0 : BitVec 32 := Scalar.select v86_r0 v90_r0 v75_r0
  let c6_i32_191_r0 : BitVec 32 := 6#32
  let v237_r0 : BitVec 32 := Scalar.remui v91_r0 c6_i32_191_r0
  let c0_i32_192_r0 : BitVec 32 := 0#32
  let c0_i32_193_r0 : BitVec 32 := 0#32
  ![v237_r0.toNat, 0, 0]
def k0_off11 : Fin 2 → Nat :=
  let c256_i32_r0 : BitVec 32 := 256#32
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c0_i32_23_r0 : BitVec 32 := 0#32
  let v27_r0 : BitVec 32 := Scalar.addi v26_r0 c0_i32_23_r0
  let v238_r0 : BitVec 32 := Scalar.muli c256_i32_r0 v27_r0
  let c2048_i32_r0 : BitVec 32 := 2048#32
  let c0_i32_19_r0 : BitVec 32 := 0#32
  let v22_r0 : BitVec 32 := Scalar.select v21_r0 c0_i32_19_r0 v20_r0
  let c0_i32_24_r0 : BitVec 32 := 0#32
  let v28_r0 : BitVec 32 := Scalar.addi v22_r0 c0_i32_24_r0
  let v239_r0 : BitVec 32 := Scalar.muli c2048_i32_r0 v28_r0
  ![v238_r0.toNat, v239_r0.toNat]
def k0_cond4 : BitVec 1 :=
  let true_92_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c0_i32_23_r0 : BitVec 32 := 0#32
  let v27_r0 : BitVec 32 := Scalar.addi v26_r0 c0_i32_23_r0
  let c0_i32_14_r0 : BitVec 32 := 0#32
  let v17_r0 : BitVec 32 := Scalar.addi v16_r0 c0_i32_14_r0
  let v110_r0 : BitVec 1 := Scalar.cmpi .ne v27_r0 v17_r0
  let c0_i32_19_r0 : BitVec 32 := 0#32
  let v22_r0 : BitVec 32 := Scalar.select v21_r0 c0_i32_19_r0 v20_r0
  let c0_i32_24_r0 : BitVec 32 := 0#32
  let v28_r0 : BitVec 32 := Scalar.addi v22_r0 c0_i32_24_r0
  let c0_i32_15_r0 : BitVec 32 := 0#32
  let v18_r0 : BitVec 32 := Scalar.addi v13_r0 c0_i32_15_r0
  let v111_r0 : BitVec 1 := Scalar.cmpi .ne v28_r0 v18_r0
  let v112_r0 : BitVec 1 := Scalar.ori v110_r0 v111_r0
  let v113_r0 : BitVec 1 := Scalar.andi true_92_r0 v112_r0
  let true_93_r0 : BitVec 1 := 1#1
  let v114_r0 : BitVec 1 := Scalar.andi v113_r0 true_93_r0
  let v115_r0 : BitVec 32 := Scalar.extui v114_r0
  let c0_i32_94_r0 : BitVec 32 := 0#32
  let v116_r0 : BitVec 1 := Scalar.cmpi .ne v115_r0 c0_i32_94_r0
  v116_r0

def k0_off12 : Fin 1 → Nat :=
  let true_84_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let c0_i32_82_r0 : BitVec 32 := 0#32
  let v92_r0 : BitVec 1 := Scalar.cmpi .ne v17_r0 c0_i32_82_r0
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let c0_i32_83_r0 : BitVec 32 := 0#32
  let v93_r0 : BitVec 1 := Scalar.cmpi .ne v18_r0 c0_i32_83_r0
  let v94_r0 : BitVec 1 := Scalar.ori v92_r0 v93_r0
  let v95_r0 : BitVec 1 := Scalar.andi true_84_r0 v94_r0
  let c0_i32_74_r0 : BitVec 32 := 0#32
  let c1_i32_75_r0 : BitVec 32 := 1#32
  let v82_r0 : BitVec 32 := Scalar.addi c0_i32_74_r0 c1_i32_75_r0
  let c1_i32_87_r0 : BitVec 32 := 1#32
  let v99_r0 : BitVec 32 := Scalar.addi v82_r0 c1_i32_87_r0
  let v100_r0 : BitVec 32 := Scalar.select v95_r0 v99_r0 v82_r0
  let c6_i32_191_r0 : BitVec 32 := 6#32
  let v237_r0 : BitVec 32 := Scalar.remui v100_r0 c6_i32_191_r0
  ![v237_r0.toNat]
def k0_off13 : Fin 3 → Nat :=
  let true_84_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let c0_i32_82_r0 : BitVec 32 := 0#32
  let v92_r0 : BitVec 1 := Scalar.cmpi .ne v17_r0 c0_i32_82_r0
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let c0_i32_83_r0 : BitVec 32 := 0#32
  let v93_r0 : BitVec 1 := Scalar.cmpi .ne v18_r0 c0_i32_83_r0
  let v94_r0 : BitVec 1 := Scalar.ori v92_r0 v93_r0
  let v95_r0 : BitVec 1 := Scalar.andi true_84_r0 v94_r0
  let c0_i32_74_r0 : BitVec 32 := 0#32
  let c1_i32_75_r0 : BitVec 32 := 1#32
  let v82_r0 : BitVec 32 := Scalar.addi c0_i32_74_r0 c1_i32_75_r0
  let c1_i32_87_r0 : BitVec 32 := 1#32
  let v99_r0 : BitVec 32 := Scalar.addi v82_r0 c1_i32_87_r0
  let v100_r0 : BitVec 32 := Scalar.select v95_r0 v99_r0 v82_r0
  let c6_i32_191_r0 : BitVec 32 := 6#32
  let v237_r0 : BitVec 32 := Scalar.remui v100_r0 c6_i32_191_r0
  let c0_i32_192_r0 : BitVec 32 := 0#32
  let c0_i32_193_r0 : BitVec 32 := 0#32
  ![v237_r0.toNat, 0, 0]
def k0_off14 : Fin 2 → Nat :=
  let c256_i32_r0 : BitVec 32 := 256#32
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c0_i32_23_r0 : BitVec 32 := 0#32
  let v27_r0 : BitVec 32 := Scalar.addi v26_r0 c0_i32_23_r0
  let v238_r0 : BitVec 32 := Scalar.muli c256_i32_r0 v27_r0
  let c2048_i32_r0 : BitVec 32 := 2048#32
  let c0_i32_19_r0 : BitVec 32 := 0#32
  let v22_r0 : BitVec 32 := Scalar.select v21_r0 c0_i32_19_r0 v20_r0
  let c0_i32_24_r0 : BitVec 32 := 0#32
  let v28_r0 : BitVec 32 := Scalar.addi v22_r0 c0_i32_24_r0
  let v239_r0 : BitVec 32 := Scalar.muli c2048_i32_r0 v28_r0
  ![v238_r0.toNat, v239_r0.toNat]
def k0_cond5 : BitVec 1 :=
  let true_96_r0 : BitVec 1 := 1#1
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c0_i32_32_r0 : BitVec 32 := 0#32
  let v37_r0 : BitVec 32 := Scalar.addi v36_r0 c0_i32_32_r0
  let c0_i32_23_r0 : BitVec 32 := 0#32
  let v27_r0 : BitVec 32 := Scalar.addi v26_r0 c0_i32_23_r0
  let v119_r0 : BitVec 1 := Scalar.cmpi .ne v37_r0 v27_r0
  let c0_i32_28_r0 : BitVec 32 := 0#32
  let v32_r0 : BitVec 32 := Scalar.select v31_r0 c0_i32_28_r0 v30_r0
  let c0_i32_33_r0 : BitVec 32 := 0#32
  let v38_r0 : BitVec 32 := Scalar.addi v32_r0 c0_i32_33_r0
  let c0_i32_24_r0 : BitVec 32 := 0#32
  let v28_r0 : BitVec 32 := Scalar.addi v22_r0 c0_i32_24_r0
  let v120_r0 : BitVec 1 := Scalar.cmpi .ne v38_r0 v28_r0
  let v121_r0 : BitVec 1 := Scalar.ori v119_r0 v120_r0
  let v122_r0 : BitVec 1 := Scalar.andi true_96_r0 v121_r0
  let true_97_r0 : BitVec 1 := 1#1
  let v123_r0 : BitVec 1 := Scalar.andi v122_r0 true_97_r0
  let v124_r0 : BitVec 32 := Scalar.extui v123_r0
  let c0_i32_98_r0 : BitVec 32 := 0#32
  let v125_r0 : BitVec 1 := Scalar.cmpi .ne v124_r0 c0_i32_98_r0
  v125_r0

def k0_off15 : Fin 1 → Nat :=
  let true_88_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c0_i32_23_r0 : BitVec 32 := 0#32
  let v27_r0 : BitVec 32 := Scalar.addi v26_r0 c0_i32_23_r0
  let c0_i32_14_r0 : BitVec 32 := 0#32
  let v17_r0 : BitVec 32 := Scalar.addi v16_r0 c0_i32_14_r0
  let v101_r0 : BitVec 1 := Scalar.cmpi .ne v27_r0 v17_r0
  let c0_i32_19_r0 : BitVec 32 := 0#32
  let v22_r0 : BitVec 32 := Scalar.select v21_r0 c0_i32_19_r0 v20_r0
  let c0_i32_24_r0 : BitVec 32 := 0#32
  let v28_r0 : BitVec 32 := Scalar.addi v22_r0 c0_i32_24_r0
  let c0_i32_15_r0 : BitVec 32 := 0#32
  let v18_r0 : BitVec 32 := Scalar.addi v13_r0 c0_i32_15_r0
  let v102_r0 : BitVec 1 := Scalar.cmpi .ne v28_r0 v18_r0
  let v103_r0 : BitVec 1 := Scalar.ori v101_r0 v102_r0
  let v104_r0 : BitVec 1 := Scalar.andi true_88_r0 v103_r0
  let true_78_r0 : BitVec 1 := 1#1
  let c0_i32_76_r0 : BitVec 32 := 0#32
  let v83_r0 : BitVec 1 := Scalar.cmpi .ne v17_r0 c0_i32_76_r0
  let c0_i32_77_r0 : BitVec 32 := 0#32
  let v84_r0 : BitVec 1 := Scalar.cmpi .ne v18_r0 c0_i32_77_r0
  let v85_r0 : BitVec 1 := Scalar.ori v83_r0 v84_r0
  let v86_r0 : BitVec 1 := Scalar.andi true_78_r0 v85_r0
  let c0_i32_66_r0 : BitVec 32 := 0#32
  let c1_i32_67_r0 : BitVec 32 := 1#32
  let v75_r0 : BitVec 32 := Scalar.addi c0_i32_66_r0 c1_i32_67_r0
  let c1_i32_81_r0 : BitVec 32 := 1#32
  let v90_r0 : BitVec 32 := Scalar.addi v75_r0 c1_i32_81_r0
  let v91_r0 : BitVec 32 := Scalar.select v86_r0 v90_r0 v75_r0
  let c1_i32_91_r0 : BitVec 32 := 1#32
  let v108_r0 : BitVec 32 := Scalar.addi v91_r0 c1_i32_91_r0
  let v109_r0 : BitVec 32 := Scalar.select v104_r0 v108_r0 v91_r0
  let c6_i32_191_r0 : BitVec 32 := 6#32
  let v237_r0 : BitVec 32 := Scalar.remui v109_r0 c6_i32_191_r0
  ![v237_r0.toNat]
def k0_off16 : Fin 3 → Nat :=
  let true_88_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c0_i32_23_r0 : BitVec 32 := 0#32
  let v27_r0 : BitVec 32 := Scalar.addi v26_r0 c0_i32_23_r0
  let c0_i32_14_r0 : BitVec 32 := 0#32
  let v17_r0 : BitVec 32 := Scalar.addi v16_r0 c0_i32_14_r0
  let v101_r0 : BitVec 1 := Scalar.cmpi .ne v27_r0 v17_r0
  let c0_i32_19_r0 : BitVec 32 := 0#32
  let v22_r0 : BitVec 32 := Scalar.select v21_r0 c0_i32_19_r0 v20_r0
  let c0_i32_24_r0 : BitVec 32 := 0#32
  let v28_r0 : BitVec 32 := Scalar.addi v22_r0 c0_i32_24_r0
  let c0_i32_15_r0 : BitVec 32 := 0#32
  let v18_r0 : BitVec 32 := Scalar.addi v13_r0 c0_i32_15_r0
  let v102_r0 : BitVec 1 := Scalar.cmpi .ne v28_r0 v18_r0
  let v103_r0 : BitVec 1 := Scalar.ori v101_r0 v102_r0
  let v104_r0 : BitVec 1 := Scalar.andi true_88_r0 v103_r0
  let true_78_r0 : BitVec 1 := 1#1
  let c0_i32_76_r0 : BitVec 32 := 0#32
  let v83_r0 : BitVec 1 := Scalar.cmpi .ne v17_r0 c0_i32_76_r0
  let c0_i32_77_r0 : BitVec 32 := 0#32
  let v84_r0 : BitVec 1 := Scalar.cmpi .ne v18_r0 c0_i32_77_r0
  let v85_r0 : BitVec 1 := Scalar.ori v83_r0 v84_r0
  let v86_r0 : BitVec 1 := Scalar.andi true_78_r0 v85_r0
  let c0_i32_66_r0 : BitVec 32 := 0#32
  let c1_i32_67_r0 : BitVec 32 := 1#32
  let v75_r0 : BitVec 32 := Scalar.addi c0_i32_66_r0 c1_i32_67_r0
  let c1_i32_81_r0 : BitVec 32 := 1#32
  let v90_r0 : BitVec 32 := Scalar.addi v75_r0 c1_i32_81_r0
  let v91_r0 : BitVec 32 := Scalar.select v86_r0 v90_r0 v75_r0
  let c1_i32_91_r0 : BitVec 32 := 1#32
  let v108_r0 : BitVec 32 := Scalar.addi v91_r0 c1_i32_91_r0
  let v109_r0 : BitVec 32 := Scalar.select v104_r0 v108_r0 v91_r0
  let c6_i32_191_r0 : BitVec 32 := 6#32
  let v237_r0 : BitVec 32 := Scalar.remui v109_r0 c6_i32_191_r0
  let c0_i32_192_r0 : BitVec 32 := 0#32
  let c0_i32_193_r0 : BitVec 32 := 0#32
  ![v237_r0.toNat, 0, 0]
def k0_off17 : Fin 2 → Nat :=
  let c256_i32_r0 : BitVec 32 := 256#32
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c0_i32_32_r0 : BitVec 32 := 0#32
  let v37_r0 : BitVec 32 := Scalar.addi v36_r0 c0_i32_32_r0
  let v238_r0 : BitVec 32 := Scalar.muli c256_i32_r0 v37_r0
  let c2048_i32_r0 : BitVec 32 := 2048#32
  let c0_i32_28_r0 : BitVec 32 := 0#32
  let v32_r0 : BitVec 32 := Scalar.select v31_r0 c0_i32_28_r0 v30_r0
  let c0_i32_33_r0 : BitVec 32 := 0#32
  let v38_r0 : BitVec 32 := Scalar.addi v32_r0 c0_i32_33_r0
  let v239_r0 : BitVec 32 := Scalar.muli c2048_i32_r0 v38_r0
  ![v238_r0.toNat, v239_r0.toNat]
def k0_cond6 : BitVec 1 :=
  let true_100_r0 : BitVec 1 := 1#1
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c0_i32_32_r0 : BitVec 32 := 0#32
  let v37_r0 : BitVec 32 := Scalar.addi v36_r0 c0_i32_32_r0
  let c0_i32_23_r0 : BitVec 32 := 0#32
  let v27_r0 : BitVec 32 := Scalar.addi v26_r0 c0_i32_23_r0
  let v128_r0 : BitVec 1 := Scalar.cmpi .ne v37_r0 v27_r0
  let c0_i32_28_r0 : BitVec 32 := 0#32
  let v32_r0 : BitVec 32 := Scalar.select v31_r0 c0_i32_28_r0 v30_r0
  let c0_i32_33_r0 : BitVec 32 := 0#32
  let v38_r0 : BitVec 32 := Scalar.addi v32_r0 c0_i32_33_r0
  let c0_i32_24_r0 : BitVec 32 := 0#32
  let v28_r0 : BitVec 32 := Scalar.addi v22_r0 c0_i32_24_r0
  let v129_r0 : BitVec 1 := Scalar.cmpi .ne v38_r0 v28_r0
  let v130_r0 : BitVec 1 := Scalar.ori v128_r0 v129_r0
  let v131_r0 : BitVec 1 := Scalar.andi true_100_r0 v130_r0
  let true_101_r0 : BitVec 1 := 1#1
  let v132_r0 : BitVec 1 := Scalar.andi v131_r0 true_101_r0
  let v133_r0 : BitVec 32 := Scalar.extui v132_r0
  let c0_i32_102_r0 : BitVec 32 := 0#32
  let v134_r0 : BitVec 1 := Scalar.cmpi .ne v133_r0 c0_i32_102_r0
  v134_r0

def k0_off18 : Fin 1 → Nat :=
  let true_92_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c0_i32_23_r0 : BitVec 32 := 0#32
  let v27_r0 : BitVec 32 := Scalar.addi v26_r0 c0_i32_23_r0
  let c0_i32_14_r0 : BitVec 32 := 0#32
  let v17_r0 : BitVec 32 := Scalar.addi v16_r0 c0_i32_14_r0
  let v110_r0 : BitVec 1 := Scalar.cmpi .ne v27_r0 v17_r0
  let c0_i32_19_r0 : BitVec 32 := 0#32
  let v22_r0 : BitVec 32 := Scalar.select v21_r0 c0_i32_19_r0 v20_r0
  let c0_i32_24_r0 : BitVec 32 := 0#32
  let v28_r0 : BitVec 32 := Scalar.addi v22_r0 c0_i32_24_r0
  let c0_i32_15_r0 : BitVec 32 := 0#32
  let v18_r0 : BitVec 32 := Scalar.addi v13_r0 c0_i32_15_r0
  let v111_r0 : BitVec 1 := Scalar.cmpi .ne v28_r0 v18_r0
  let v112_r0 : BitVec 1 := Scalar.ori v110_r0 v111_r0
  let v113_r0 : BitVec 1 := Scalar.andi true_92_r0 v112_r0
  let true_84_r0 : BitVec 1 := 1#1
  let c0_i32_82_r0 : BitVec 32 := 0#32
  let v92_r0 : BitVec 1 := Scalar.cmpi .ne v17_r0 c0_i32_82_r0
  let c0_i32_83_r0 : BitVec 32 := 0#32
  let v93_r0 : BitVec 1 := Scalar.cmpi .ne v18_r0 c0_i32_83_r0
  let v94_r0 : BitVec 1 := Scalar.ori v92_r0 v93_r0
  let v95_r0 : BitVec 1 := Scalar.andi true_84_r0 v94_r0
  let c0_i32_74_r0 : BitVec 32 := 0#32
  let c1_i32_75_r0 : BitVec 32 := 1#32
  let v82_r0 : BitVec 32 := Scalar.addi c0_i32_74_r0 c1_i32_75_r0
  let c1_i32_87_r0 : BitVec 32 := 1#32
  let v99_r0 : BitVec 32 := Scalar.addi v82_r0 c1_i32_87_r0
  let v100_r0 : BitVec 32 := Scalar.select v95_r0 v99_r0 v82_r0
  let c1_i32_95_r0 : BitVec 32 := 1#32
  let v117_r0 : BitVec 32 := Scalar.addi v100_r0 c1_i32_95_r0
  let v118_r0 : BitVec 32 := Scalar.select v113_r0 v117_r0 v100_r0
  let c6_i32_191_r0 : BitVec 32 := 6#32
  let v237_r0 : BitVec 32 := Scalar.remui v118_r0 c6_i32_191_r0
  ![v237_r0.toNat]
def k0_off19 : Fin 3 → Nat :=
  let true_92_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c0_i32_23_r0 : BitVec 32 := 0#32
  let v27_r0 : BitVec 32 := Scalar.addi v26_r0 c0_i32_23_r0
  let c0_i32_14_r0 : BitVec 32 := 0#32
  let v17_r0 : BitVec 32 := Scalar.addi v16_r0 c0_i32_14_r0
  let v110_r0 : BitVec 1 := Scalar.cmpi .ne v27_r0 v17_r0
  let c0_i32_19_r0 : BitVec 32 := 0#32
  let v22_r0 : BitVec 32 := Scalar.select v21_r0 c0_i32_19_r0 v20_r0
  let c0_i32_24_r0 : BitVec 32 := 0#32
  let v28_r0 : BitVec 32 := Scalar.addi v22_r0 c0_i32_24_r0
  let c0_i32_15_r0 : BitVec 32 := 0#32
  let v18_r0 : BitVec 32 := Scalar.addi v13_r0 c0_i32_15_r0
  let v111_r0 : BitVec 1 := Scalar.cmpi .ne v28_r0 v18_r0
  let v112_r0 : BitVec 1 := Scalar.ori v110_r0 v111_r0
  let v113_r0 : BitVec 1 := Scalar.andi true_92_r0 v112_r0
  let true_84_r0 : BitVec 1 := 1#1
  let c0_i32_82_r0 : BitVec 32 := 0#32
  let v92_r0 : BitVec 1 := Scalar.cmpi .ne v17_r0 c0_i32_82_r0
  let c0_i32_83_r0 : BitVec 32 := 0#32
  let v93_r0 : BitVec 1 := Scalar.cmpi .ne v18_r0 c0_i32_83_r0
  let v94_r0 : BitVec 1 := Scalar.ori v92_r0 v93_r0
  let v95_r0 : BitVec 1 := Scalar.andi true_84_r0 v94_r0
  let c0_i32_74_r0 : BitVec 32 := 0#32
  let c1_i32_75_r0 : BitVec 32 := 1#32
  let v82_r0 : BitVec 32 := Scalar.addi c0_i32_74_r0 c1_i32_75_r0
  let c1_i32_87_r0 : BitVec 32 := 1#32
  let v99_r0 : BitVec 32 := Scalar.addi v82_r0 c1_i32_87_r0
  let v100_r0 : BitVec 32 := Scalar.select v95_r0 v99_r0 v82_r0
  let c1_i32_95_r0 : BitVec 32 := 1#32
  let v117_r0 : BitVec 32 := Scalar.addi v100_r0 c1_i32_95_r0
  let v118_r0 : BitVec 32 := Scalar.select v113_r0 v117_r0 v100_r0
  let c6_i32_191_r0 : BitVec 32 := 6#32
  let v237_r0 : BitVec 32 := Scalar.remui v118_r0 c6_i32_191_r0
  let c0_i32_192_r0 : BitVec 32 := 0#32
  let c0_i32_193_r0 : BitVec 32 := 0#32
  ![v237_r0.toNat, 0, 0]
def k0_off20 : Fin 2 → Nat :=
  let c256_i32_r0 : BitVec 32 := 256#32
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c0_i32_32_r0 : BitVec 32 := 0#32
  let v37_r0 : BitVec 32 := Scalar.addi v36_r0 c0_i32_32_r0
  let v238_r0 : BitVec 32 := Scalar.muli c256_i32_r0 v37_r0
  let c2048_i32_r0 : BitVec 32 := 2048#32
  let c0_i32_28_r0 : BitVec 32 := 0#32
  let v32_r0 : BitVec 32 := Scalar.select v31_r0 c0_i32_28_r0 v30_r0
  let c0_i32_33_r0 : BitVec 32 := 0#32
  let v38_r0 : BitVec 32 := Scalar.addi v32_r0 c0_i32_33_r0
  let v239_r0 : BitVec 32 := Scalar.muli c2048_i32_r0 v38_r0
  ![v238_r0.toNat, v239_r0.toNat]
def k0_cond7 : BitVec 1 :=
  let true_104_r0 : BitVec 1 := 1#1
  let true_35_r0 : BitVec 1 := 1#1
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c0_i32_28_r0 : BitVec 32 := 0#32
  let v32_r0 : BitVec 32 := Scalar.select v31_r0 c0_i32_28_r0 v30_r0
  let c1_i32_34_r0 : BitVec 32 := 1#32
  let v39_r0 : BitVec 32 := Scalar.addi v32_r0 c1_i32_34_r0
  let v40_r0 : BitVec 32 := Scalar.select true_35_r0 v39_r0 v32_r0
  let c4_i32_36_r0 : BitVec 32 := 4#32
  let v41_r0 : BitVec 1 := Scalar.cmpi .eq v40_r0 c4_i32_36_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c1_i32_38_r0 : BitVec 32 := 1#32
  let v43_r0 : BitVec 32 := Scalar.addi v36_r0 c1_i32_38_r0
  let v44_r0 : BitVec 32 := Scalar.select v41_r0 v43_r0 v36_r0
  let c32_i32_39_r0 : BitVec 32 := 32#32
  let v45_r0 : BitVec 1 := Scalar.cmpi .eq v44_r0 c32_i32_39_r0
  let c0_i32_40_r0 : BitVec 32 := 0#32
  let v46_r0 : BitVec 32 := Scalar.select v45_r0 c0_i32_40_r0 v44_r0
  let c0_i32_41_r0 : BitVec 32 := 0#32
  let v47_r0 : BitVec 32 := Scalar.addi v46_r0 c0_i32_41_r0
  let c0_i32_32_r0 : BitVec 32 := 0#32
  let v37_r0 : BitVec 32 := Scalar.addi v36_r0 c0_i32_32_r0
  let v137_r0 : BitVec 1 := Scalar.cmpi .ne v47_r0 v37_r0
  let c0_i32_37_r0 : BitVec 32 := 0#32
  let v42_r0 : BitVec 32 := Scalar.select v41_r0 c0_i32_37_r0 v40_r0
  let c0_i32_42_r0 : BitVec 32 := 0#32
  let v48_r0 : BitVec 32 := Scalar.addi v42_r0 c0_i32_42_r0
  let c0_i32_33_r0 : BitVec 32 := 0#32
  let v38_r0 : BitVec 32 := Scalar.addi v32_r0 c0_i32_33_r0
  let v138_r0 : BitVec 1 := Scalar.cmpi .ne v48_r0 v38_r0
  let v139_r0 : BitVec 1 := Scalar.ori v137_r0 v138_r0
  let v140_r0 : BitVec 1 := Scalar.andi true_104_r0 v139_r0
  let true_105_r0 : BitVec 1 := 1#1
  let v141_r0 : BitVec 1 := Scalar.andi v140_r0 true_105_r0
  let v142_r0 : BitVec 32 := Scalar.extui v141_r0
  let c0_i32_106_r0 : BitVec 32 := 0#32
  let v143_r0 : BitVec 1 := Scalar.cmpi .ne v142_r0 c0_i32_106_r0
  v143_r0

def k0_off21 : Fin 1 → Nat :=
  let true_96_r0 : BitVec 1 := 1#1
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c0_i32_32_r0 : BitVec 32 := 0#32
  let v37_r0 : BitVec 32 := Scalar.addi v36_r0 c0_i32_32_r0
  let c0_i32_23_r0 : BitVec 32 := 0#32
  let v27_r0 : BitVec 32 := Scalar.addi v26_r0 c0_i32_23_r0
  let v119_r0 : BitVec 1 := Scalar.cmpi .ne v37_r0 v27_r0
  let c0_i32_28_r0 : BitVec 32 := 0#32
  let v32_r0 : BitVec 32 := Scalar.select v31_r0 c0_i32_28_r0 v30_r0
  let c0_i32_33_r0 : BitVec 32 := 0#32
  let v38_r0 : BitVec 32 := Scalar.addi v32_r0 c0_i32_33_r0
  let c0_i32_24_r0 : BitVec 32 := 0#32
  let v28_r0 : BitVec 32 := Scalar.addi v22_r0 c0_i32_24_r0
  let v120_r0 : BitVec 1 := Scalar.cmpi .ne v38_r0 v28_r0
  let v121_r0 : BitVec 1 := Scalar.ori v119_r0 v120_r0
  let v122_r0 : BitVec 1 := Scalar.andi true_96_r0 v121_r0
  let true_88_r0 : BitVec 1 := 1#1
  let c0_i32_14_r0 : BitVec 32 := 0#32
  let v17_r0 : BitVec 32 := Scalar.addi v16_r0 c0_i32_14_r0
  let v101_r0 : BitVec 1 := Scalar.cmpi .ne v27_r0 v17_r0
  let c0_i32_15_r0 : BitVec 32 := 0#32
  let v18_r0 : BitVec 32 := Scalar.addi v13_r0 c0_i32_15_r0
  let v102_r0 : BitVec 1 := Scalar.cmpi .ne v28_r0 v18_r0
  let v103_r0 : BitVec 1 := Scalar.ori v101_r0 v102_r0
  let v104_r0 : BitVec 1 := Scalar.andi true_88_r0 v103_r0
  let true_78_r0 : BitVec 1 := 1#1
  let c0_i32_76_r0 : BitVec 32 := 0#32
  let v83_r0 : BitVec 1 := Scalar.cmpi .ne v17_r0 c0_i32_76_r0
  let c0_i32_77_r0 : BitVec 32 := 0#32
  let v84_r0 : BitVec 1 := Scalar.cmpi .ne v18_r0 c0_i32_77_r0
  let v85_r0 : BitVec 1 := Scalar.ori v83_r0 v84_r0
  let v86_r0 : BitVec 1 := Scalar.andi true_78_r0 v85_r0
  let c0_i32_66_r0 : BitVec 32 := 0#32
  let c1_i32_67_r0 : BitVec 32 := 1#32
  let v75_r0 : BitVec 32 := Scalar.addi c0_i32_66_r0 c1_i32_67_r0
  let c1_i32_81_r0 : BitVec 32 := 1#32
  let v90_r0 : BitVec 32 := Scalar.addi v75_r0 c1_i32_81_r0
  let v91_r0 : BitVec 32 := Scalar.select v86_r0 v90_r0 v75_r0
  let c1_i32_91_r0 : BitVec 32 := 1#32
  let v108_r0 : BitVec 32 := Scalar.addi v91_r0 c1_i32_91_r0
  let v109_r0 : BitVec 32 := Scalar.select v104_r0 v108_r0 v91_r0
  let c1_i32_99_r0 : BitVec 32 := 1#32
  let v126_r0 : BitVec 32 := Scalar.addi v109_r0 c1_i32_99_r0
  let v127_r0 : BitVec 32 := Scalar.select v122_r0 v126_r0 v109_r0
  let c6_i32_191_r0 : BitVec 32 := 6#32
  let v237_r0 : BitVec 32 := Scalar.remui v127_r0 c6_i32_191_r0
  ![v237_r0.toNat]
def k0_off22 : Fin 3 → Nat :=
  let true_96_r0 : BitVec 1 := 1#1
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c0_i32_32_r0 : BitVec 32 := 0#32
  let v37_r0 : BitVec 32 := Scalar.addi v36_r0 c0_i32_32_r0
  let c0_i32_23_r0 : BitVec 32 := 0#32
  let v27_r0 : BitVec 32 := Scalar.addi v26_r0 c0_i32_23_r0
  let v119_r0 : BitVec 1 := Scalar.cmpi .ne v37_r0 v27_r0
  let c0_i32_28_r0 : BitVec 32 := 0#32
  let v32_r0 : BitVec 32 := Scalar.select v31_r0 c0_i32_28_r0 v30_r0
  let c0_i32_33_r0 : BitVec 32 := 0#32
  let v38_r0 : BitVec 32 := Scalar.addi v32_r0 c0_i32_33_r0
  let c0_i32_24_r0 : BitVec 32 := 0#32
  let v28_r0 : BitVec 32 := Scalar.addi v22_r0 c0_i32_24_r0
  let v120_r0 : BitVec 1 := Scalar.cmpi .ne v38_r0 v28_r0
  let v121_r0 : BitVec 1 := Scalar.ori v119_r0 v120_r0
  let v122_r0 : BitVec 1 := Scalar.andi true_96_r0 v121_r0
  let true_88_r0 : BitVec 1 := 1#1
  let c0_i32_14_r0 : BitVec 32 := 0#32
  let v17_r0 : BitVec 32 := Scalar.addi v16_r0 c0_i32_14_r0
  let v101_r0 : BitVec 1 := Scalar.cmpi .ne v27_r0 v17_r0
  let c0_i32_15_r0 : BitVec 32 := 0#32
  let v18_r0 : BitVec 32 := Scalar.addi v13_r0 c0_i32_15_r0
  let v102_r0 : BitVec 1 := Scalar.cmpi .ne v28_r0 v18_r0
  let v103_r0 : BitVec 1 := Scalar.ori v101_r0 v102_r0
  let v104_r0 : BitVec 1 := Scalar.andi true_88_r0 v103_r0
  let true_78_r0 : BitVec 1 := 1#1
  let c0_i32_76_r0 : BitVec 32 := 0#32
  let v83_r0 : BitVec 1 := Scalar.cmpi .ne v17_r0 c0_i32_76_r0
  let c0_i32_77_r0 : BitVec 32 := 0#32
  let v84_r0 : BitVec 1 := Scalar.cmpi .ne v18_r0 c0_i32_77_r0
  let v85_r0 : BitVec 1 := Scalar.ori v83_r0 v84_r0
  let v86_r0 : BitVec 1 := Scalar.andi true_78_r0 v85_r0
  let c0_i32_66_r0 : BitVec 32 := 0#32
  let c1_i32_67_r0 : BitVec 32 := 1#32
  let v75_r0 : BitVec 32 := Scalar.addi c0_i32_66_r0 c1_i32_67_r0
  let c1_i32_81_r0 : BitVec 32 := 1#32
  let v90_r0 : BitVec 32 := Scalar.addi v75_r0 c1_i32_81_r0
  let v91_r0 : BitVec 32 := Scalar.select v86_r0 v90_r0 v75_r0
  let c1_i32_91_r0 : BitVec 32 := 1#32
  let v108_r0 : BitVec 32 := Scalar.addi v91_r0 c1_i32_91_r0
  let v109_r0 : BitVec 32 := Scalar.select v104_r0 v108_r0 v91_r0
  let c1_i32_99_r0 : BitVec 32 := 1#32
  let v126_r0 : BitVec 32 := Scalar.addi v109_r0 c1_i32_99_r0
  let v127_r0 : BitVec 32 := Scalar.select v122_r0 v126_r0 v109_r0
  let c6_i32_191_r0 : BitVec 32 := 6#32
  let v237_r0 : BitVec 32 := Scalar.remui v127_r0 c6_i32_191_r0
  let c0_i32_192_r0 : BitVec 32 := 0#32
  let c0_i32_193_r0 : BitVec 32 := 0#32
  ![v237_r0.toNat, 0, 0]
def k0_off23 : Fin 2 → Nat :=
  let c256_i32_r0 : BitVec 32 := 256#32
  let true_35_r0 : BitVec 1 := 1#1
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c0_i32_28_r0 : BitVec 32 := 0#32
  let v32_r0 : BitVec 32 := Scalar.select v31_r0 c0_i32_28_r0 v30_r0
  let c1_i32_34_r0 : BitVec 32 := 1#32
  let v39_r0 : BitVec 32 := Scalar.addi v32_r0 c1_i32_34_r0
  let v40_r0 : BitVec 32 := Scalar.select true_35_r0 v39_r0 v32_r0
  let c4_i32_36_r0 : BitVec 32 := 4#32
  let v41_r0 : BitVec 1 := Scalar.cmpi .eq v40_r0 c4_i32_36_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c1_i32_38_r0 : BitVec 32 := 1#32
  let v43_r0 : BitVec 32 := Scalar.addi v36_r0 c1_i32_38_r0
  let v44_r0 : BitVec 32 := Scalar.select v41_r0 v43_r0 v36_r0
  let c32_i32_39_r0 : BitVec 32 := 32#32
  let v45_r0 : BitVec 1 := Scalar.cmpi .eq v44_r0 c32_i32_39_r0
  let c0_i32_40_r0 : BitVec 32 := 0#32
  let v46_r0 : BitVec 32 := Scalar.select v45_r0 c0_i32_40_r0 v44_r0
  let c0_i32_41_r0 : BitVec 32 := 0#32
  let v47_r0 : BitVec 32 := Scalar.addi v46_r0 c0_i32_41_r0
  let v238_r0 : BitVec 32 := Scalar.muli c256_i32_r0 v47_r0
  let c2048_i32_r0 : BitVec 32 := 2048#32
  let c0_i32_37_r0 : BitVec 32 := 0#32
  let v42_r0 : BitVec 32 := Scalar.select v41_r0 c0_i32_37_r0 v40_r0
  let c0_i32_42_r0 : BitVec 32 := 0#32
  let v48_r0 : BitVec 32 := Scalar.addi v42_r0 c0_i32_42_r0
  let v239_r0 : BitVec 32 := Scalar.muli c2048_i32_r0 v48_r0
  ![v238_r0.toNat, v239_r0.toNat]
def k0_cond8 : BitVec 1 :=
  let true_108_r0 : BitVec 1 := 1#1
  let true_35_r0 : BitVec 1 := 1#1
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c0_i32_28_r0 : BitVec 32 := 0#32
  let v32_r0 : BitVec 32 := Scalar.select v31_r0 c0_i32_28_r0 v30_r0
  let c1_i32_34_r0 : BitVec 32 := 1#32
  let v39_r0 : BitVec 32 := Scalar.addi v32_r0 c1_i32_34_r0
  let v40_r0 : BitVec 32 := Scalar.select true_35_r0 v39_r0 v32_r0
  let c4_i32_36_r0 : BitVec 32 := 4#32
  let v41_r0 : BitVec 1 := Scalar.cmpi .eq v40_r0 c4_i32_36_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c1_i32_38_r0 : BitVec 32 := 1#32
  let v43_r0 : BitVec 32 := Scalar.addi v36_r0 c1_i32_38_r0
  let v44_r0 : BitVec 32 := Scalar.select v41_r0 v43_r0 v36_r0
  let c32_i32_39_r0 : BitVec 32 := 32#32
  let v45_r0 : BitVec 1 := Scalar.cmpi .eq v44_r0 c32_i32_39_r0
  let c0_i32_40_r0 : BitVec 32 := 0#32
  let v46_r0 : BitVec 32 := Scalar.select v45_r0 c0_i32_40_r0 v44_r0
  let c0_i32_41_r0 : BitVec 32 := 0#32
  let v47_r0 : BitVec 32 := Scalar.addi v46_r0 c0_i32_41_r0
  let c0_i32_32_r0 : BitVec 32 := 0#32
  let v37_r0 : BitVec 32 := Scalar.addi v36_r0 c0_i32_32_r0
  let v146_r0 : BitVec 1 := Scalar.cmpi .ne v47_r0 v37_r0
  let c0_i32_37_r0 : BitVec 32 := 0#32
  let v42_r0 : BitVec 32 := Scalar.select v41_r0 c0_i32_37_r0 v40_r0
  let c0_i32_42_r0 : BitVec 32 := 0#32
  let v48_r0 : BitVec 32 := Scalar.addi v42_r0 c0_i32_42_r0
  let c0_i32_33_r0 : BitVec 32 := 0#32
  let v38_r0 : BitVec 32 := Scalar.addi v32_r0 c0_i32_33_r0
  let v147_r0 : BitVec 1 := Scalar.cmpi .ne v48_r0 v38_r0
  let v148_r0 : BitVec 1 := Scalar.ori v146_r0 v147_r0
  let v149_r0 : BitVec 1 := Scalar.andi true_108_r0 v148_r0
  let true_109_r0 : BitVec 1 := 1#1
  let v150_r0 : BitVec 1 := Scalar.andi v149_r0 true_109_r0
  let v151_r0 : BitVec 32 := Scalar.extui v150_r0
  let c0_i32_110_r0 : BitVec 32 := 0#32
  let v152_r0 : BitVec 1 := Scalar.cmpi .ne v151_r0 c0_i32_110_r0
  v152_r0

def k0_off24 : Fin 1 → Nat :=
  let true_100_r0 : BitVec 1 := 1#1
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c0_i32_32_r0 : BitVec 32 := 0#32
  let v37_r0 : BitVec 32 := Scalar.addi v36_r0 c0_i32_32_r0
  let c0_i32_23_r0 : BitVec 32 := 0#32
  let v27_r0 : BitVec 32 := Scalar.addi v26_r0 c0_i32_23_r0
  let v128_r0 : BitVec 1 := Scalar.cmpi .ne v37_r0 v27_r0
  let c0_i32_28_r0 : BitVec 32 := 0#32
  let v32_r0 : BitVec 32 := Scalar.select v31_r0 c0_i32_28_r0 v30_r0
  let c0_i32_33_r0 : BitVec 32 := 0#32
  let v38_r0 : BitVec 32 := Scalar.addi v32_r0 c0_i32_33_r0
  let c0_i32_24_r0 : BitVec 32 := 0#32
  let v28_r0 : BitVec 32 := Scalar.addi v22_r0 c0_i32_24_r0
  let v129_r0 : BitVec 1 := Scalar.cmpi .ne v38_r0 v28_r0
  let v130_r0 : BitVec 1 := Scalar.ori v128_r0 v129_r0
  let v131_r0 : BitVec 1 := Scalar.andi true_100_r0 v130_r0
  let true_92_r0 : BitVec 1 := 1#1
  let c0_i32_14_r0 : BitVec 32 := 0#32
  let v17_r0 : BitVec 32 := Scalar.addi v16_r0 c0_i32_14_r0
  let v110_r0 : BitVec 1 := Scalar.cmpi .ne v27_r0 v17_r0
  let c0_i32_15_r0 : BitVec 32 := 0#32
  let v18_r0 : BitVec 32 := Scalar.addi v13_r0 c0_i32_15_r0
  let v111_r0 : BitVec 1 := Scalar.cmpi .ne v28_r0 v18_r0
  let v112_r0 : BitVec 1 := Scalar.ori v110_r0 v111_r0
  let v113_r0 : BitVec 1 := Scalar.andi true_92_r0 v112_r0
  let true_84_r0 : BitVec 1 := 1#1
  let c0_i32_82_r0 : BitVec 32 := 0#32
  let v92_r0 : BitVec 1 := Scalar.cmpi .ne v17_r0 c0_i32_82_r0
  let c0_i32_83_r0 : BitVec 32 := 0#32
  let v93_r0 : BitVec 1 := Scalar.cmpi .ne v18_r0 c0_i32_83_r0
  let v94_r0 : BitVec 1 := Scalar.ori v92_r0 v93_r0
  let v95_r0 : BitVec 1 := Scalar.andi true_84_r0 v94_r0
  let c0_i32_74_r0 : BitVec 32 := 0#32
  let c1_i32_75_r0 : BitVec 32 := 1#32
  let v82_r0 : BitVec 32 := Scalar.addi c0_i32_74_r0 c1_i32_75_r0
  let c1_i32_87_r0 : BitVec 32 := 1#32
  let v99_r0 : BitVec 32 := Scalar.addi v82_r0 c1_i32_87_r0
  let v100_r0 : BitVec 32 := Scalar.select v95_r0 v99_r0 v82_r0
  let c1_i32_95_r0 : BitVec 32 := 1#32
  let v117_r0 : BitVec 32 := Scalar.addi v100_r0 c1_i32_95_r0
  let v118_r0 : BitVec 32 := Scalar.select v113_r0 v117_r0 v100_r0
  let c1_i32_103_r0 : BitVec 32 := 1#32
  let v135_r0 : BitVec 32 := Scalar.addi v118_r0 c1_i32_103_r0
  let v136_r0 : BitVec 32 := Scalar.select v131_r0 v135_r0 v118_r0
  let c6_i32_191_r0 : BitVec 32 := 6#32
  let v237_r0 : BitVec 32 := Scalar.remui v136_r0 c6_i32_191_r0
  ![v237_r0.toNat]
def k0_off25 : Fin 3 → Nat :=
  let true_100_r0 : BitVec 1 := 1#1
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c0_i32_32_r0 : BitVec 32 := 0#32
  let v37_r0 : BitVec 32 := Scalar.addi v36_r0 c0_i32_32_r0
  let c0_i32_23_r0 : BitVec 32 := 0#32
  let v27_r0 : BitVec 32 := Scalar.addi v26_r0 c0_i32_23_r0
  let v128_r0 : BitVec 1 := Scalar.cmpi .ne v37_r0 v27_r0
  let c0_i32_28_r0 : BitVec 32 := 0#32
  let v32_r0 : BitVec 32 := Scalar.select v31_r0 c0_i32_28_r0 v30_r0
  let c0_i32_33_r0 : BitVec 32 := 0#32
  let v38_r0 : BitVec 32 := Scalar.addi v32_r0 c0_i32_33_r0
  let c0_i32_24_r0 : BitVec 32 := 0#32
  let v28_r0 : BitVec 32 := Scalar.addi v22_r0 c0_i32_24_r0
  let v129_r0 : BitVec 1 := Scalar.cmpi .ne v38_r0 v28_r0
  let v130_r0 : BitVec 1 := Scalar.ori v128_r0 v129_r0
  let v131_r0 : BitVec 1 := Scalar.andi true_100_r0 v130_r0
  let true_92_r0 : BitVec 1 := 1#1
  let c0_i32_14_r0 : BitVec 32 := 0#32
  let v17_r0 : BitVec 32 := Scalar.addi v16_r0 c0_i32_14_r0
  let v110_r0 : BitVec 1 := Scalar.cmpi .ne v27_r0 v17_r0
  let c0_i32_15_r0 : BitVec 32 := 0#32
  let v18_r0 : BitVec 32 := Scalar.addi v13_r0 c0_i32_15_r0
  let v111_r0 : BitVec 1 := Scalar.cmpi .ne v28_r0 v18_r0
  let v112_r0 : BitVec 1 := Scalar.ori v110_r0 v111_r0
  let v113_r0 : BitVec 1 := Scalar.andi true_92_r0 v112_r0
  let true_84_r0 : BitVec 1 := 1#1
  let c0_i32_82_r0 : BitVec 32 := 0#32
  let v92_r0 : BitVec 1 := Scalar.cmpi .ne v17_r0 c0_i32_82_r0
  let c0_i32_83_r0 : BitVec 32 := 0#32
  let v93_r0 : BitVec 1 := Scalar.cmpi .ne v18_r0 c0_i32_83_r0
  let v94_r0 : BitVec 1 := Scalar.ori v92_r0 v93_r0
  let v95_r0 : BitVec 1 := Scalar.andi true_84_r0 v94_r0
  let c0_i32_74_r0 : BitVec 32 := 0#32
  let c1_i32_75_r0 : BitVec 32 := 1#32
  let v82_r0 : BitVec 32 := Scalar.addi c0_i32_74_r0 c1_i32_75_r0
  let c1_i32_87_r0 : BitVec 32 := 1#32
  let v99_r0 : BitVec 32 := Scalar.addi v82_r0 c1_i32_87_r0
  let v100_r0 : BitVec 32 := Scalar.select v95_r0 v99_r0 v82_r0
  let c1_i32_95_r0 : BitVec 32 := 1#32
  let v117_r0 : BitVec 32 := Scalar.addi v100_r0 c1_i32_95_r0
  let v118_r0 : BitVec 32 := Scalar.select v113_r0 v117_r0 v100_r0
  let c1_i32_103_r0 : BitVec 32 := 1#32
  let v135_r0 : BitVec 32 := Scalar.addi v118_r0 c1_i32_103_r0
  let v136_r0 : BitVec 32 := Scalar.select v131_r0 v135_r0 v118_r0
  let c6_i32_191_r0 : BitVec 32 := 6#32
  let v237_r0 : BitVec 32 := Scalar.remui v136_r0 c6_i32_191_r0
  let c0_i32_192_r0 : BitVec 32 := 0#32
  let c0_i32_193_r0 : BitVec 32 := 0#32
  ![v237_r0.toNat, 0, 0]
def k0_off26 : Fin 2 → Nat :=
  let c256_i32_r0 : BitVec 32 := 256#32
  let true_35_r0 : BitVec 1 := 1#1
  let true_26_r0 : BitVec 1 := 1#1
  let true_17_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c4_i32_r0 : BitVec 32 := 4#32
  let v12_r0 : BitVec 1 := Scalar.cmpi .eq v11_r0 c4_i32_r0
  let c0_i32_10_r0 : BitVec 32 := 0#32
  let v13_r0 : BitVec 32 := Scalar.select v12_r0 c0_i32_10_r0 v11_r0
  let c1_i32_16_r0 : BitVec 32 := 1#32
  let v19_r0 : BitVec 32 := Scalar.addi v13_r0 c1_i32_16_r0
  let v20_r0 : BitVec 32 := Scalar.select true_17_r0 v19_r0 v13_r0
  let c4_i32_18_r0 : BitVec 32 := 4#32
  let v21_r0 : BitVec 1 := Scalar.cmpi .eq v20_r0 c4_i32_18_r0
  let c0_i32_19_r0 : BitVec 32 := 0#32
  let v22_r0 : BitVec 32 := Scalar.select v21_r0 c0_i32_19_r0 v20_r0
  let c1_i32_25_r0 : BitVec 32 := 1#32
  let v29_r0 : BitVec 32 := Scalar.addi v22_r0 c1_i32_25_r0
  let v30_r0 : BitVec 32 := Scalar.select true_26_r0 v29_r0 v22_r0
  let c4_i32_27_r0 : BitVec 32 := 4#32
  let v31_r0 : BitVec 1 := Scalar.cmpi .eq v30_r0 c4_i32_27_r0
  let c0_i32_28_r0 : BitVec 32 := 0#32
  let v32_r0 : BitVec 32 := Scalar.select v31_r0 c0_i32_28_r0 v30_r0
  let c1_i32_34_r0 : BitVec 32 := 1#32
  let v39_r0 : BitVec 32 := Scalar.addi v32_r0 c1_i32_34_r0
  let v40_r0 : BitVec 32 := Scalar.select true_35_r0 v39_r0 v32_r0
  let c4_i32_36_r0 : BitVec 32 := 4#32
  let v41_r0 : BitVec 1 := Scalar.cmpi .eq v40_r0 c4_i32_36_r0
  let c1_i32_12_r0 : BitVec 32 := 1#32
  let c0_i32_11_r0 : BitVec 32 := 0#32
  let v14_r0 : BitVec 32 := Scalar.select v12_r0 c1_i32_12_r0 c0_i32_11_r0
  let c32_i32_r0 : BitVec 32 := 32#32
  let v15_r0 : BitVec 1 := Scalar.cmpi .eq v14_r0 c32_i32_r0
  let c0_i32_13_r0 : BitVec 32 := 0#32
  let v16_r0 : BitVec 32 := Scalar.select v15_r0 c0_i32_13_r0 v14_r0
  let c1_i32_20_r0 : BitVec 32 := 1#32
  let v23_r0 : BitVec 32 := Scalar.addi v16_r0 c1_i32_20_r0
  let v24_r0 : BitVec 32 := Scalar.select v21_r0 v23_r0 v16_r0
  let c32_i32_21_r0 : BitVec 32 := 32#32
  let v25_r0 : BitVec 1 := Scalar.cmpi .eq v24_r0 c32_i32_21_r0
  let c0_i32_22_r0 : BitVec 32 := 0#32
  let v26_r0 : BitVec 32 := Scalar.select v25_r0 c0_i32_22_r0 v24_r0
  let c1_i32_29_r0 : BitVec 32 := 1#32
  let v33_r0 : BitVec 32 := Scalar.addi v26_r0 c1_i32_29_r0
  let v34_r0 : BitVec 32 := Scalar.select v31_r0 v33_r0 v26_r0
  let c32_i32_30_r0 : BitVec 32 := 32#32
  let v35_r0 : BitVec 1 := Scalar.cmpi .eq v34_r0 c32_i32_30_r0
  let c0_i32_31_r0 : BitVec 32 := 0#32
  let v36_r0 : BitVec 32 := Scalar.select v35_r0 c0_i32_31_r0 v34_r0
  let c1_i32_38_r0 : BitVec 32 := 1#32
  let v43_r0 : BitVec 32 := Scalar.addi v36_r0 c1_i32_38_r0
  let v44_r0 : BitVec 32 := Scalar.select v41_r0 v43_r0 v36_r0
  let c32_i32_39_r0 : BitVec 32 := 32#32
  let v45_r0 : BitVec 1 := Scalar.cmpi .eq v44_r0 c32_i32_39_r0
  let c0_i32_40_r0 : BitVec 32 := 0#32
  let v46_r0 : BitVec 32 := Scalar.select v45_r0 c0_i32_40_r0 v44_r0
  let c0_i32_41_r0 : BitVec 32 := 0#32
  let v47_r0 : BitVec 32 := Scalar.addi v46_r0 c0_i32_41_r0
  let v238_r0 : BitVec 32 := Scalar.muli c256_i32_r0 v47_r0
  let c2048_i32_r0 : BitVec 32 := 2048#32
  let c0_i32_37_r0 : BitVec 32 := 0#32
  let v42_r0 : BitVec 32 := Scalar.select v41_r0 c0_i32_37_r0 v40_r0
  let c0_i32_42_r0 : BitVec 32 := 0#32
  let v48_r0 : BitVec 32 := Scalar.addi v42_r0 c0_i32_42_r0
  let v239_r0 : BitVec 32 := Scalar.muli c2048_i32_r0 v48_r0
  ![v238_r0.toNat, v239_r0.toNat]
@[reducible] def k0_t1_loop : Scf.Loop 32 :=
  let c0_i32_116_r0 : BitVec 32 := 0#32
  let c128_i32_r0 : BitVec 32 := 128#32
  let v155_r0 : BitVec 32 := Scalar.addi c0_i32_116_r0 c128_i32_r0
  let c1_i32_117_r0 : BitVec 32 := 1#32
  ⟨c0_i32_116_r0, v155_r0, c1_i32_117_r0⟩
def k0_off27 (arg13_r0 : BitVec 32) : Fin 1 → Nat :=
  let c6_i32_324_r0 : BitVec 32 := 6#32
  let v469_r0 : BitVec 32 := Scalar.remui arg13_r0 c6_i32_324_r0
  ![v469_r0.toNat]
def k0_cond9 (k0_t1 : Fin k0_t1_loop.trips) (arg17_r0 : BitVec 32) (arg18_r0 : BitVec 32) : BitVec 1 :=
  let true_231_r0 : BitVec 1 := 1#1
  let true_222_r0 : BitVec 1 := 1#1
  let true_213_r0 : BitVec 1 := 1#1
  let true_204_r0 : BitVec 1 := 1#1
  let c1_i32_203_r0 : BitVec 32 := 1#32
  let v251_r0 : BitVec 32 := Scalar.addi arg18_r0 c1_i32_203_r0
  let v252_r0 : BitVec 32 := Scalar.select true_204_r0 v251_r0 arg18_r0
  let c4_i32_205_r0 : BitVec 32 := 4#32
  let v253_r0 : BitVec 1 := Scalar.cmpi .eq v252_r0 c4_i32_205_r0
  let c0_i32_206_r0 : BitVec 32 := 0#32
  let v254_r0 : BitVec 32 := Scalar.select v253_r0 c0_i32_206_r0 v252_r0
  let c1_i32_212_r0 : BitVec 32 := 1#32
  let v261_r0 : BitVec 32 := Scalar.addi v254_r0 c1_i32_212_r0
  let v262_r0 : BitVec 32 := Scalar.select true_213_r0 v261_r0 v254_r0
  let c4_i32_214_r0 : BitVec 32 := 4#32
  let v263_r0 : BitVec 1 := Scalar.cmpi .eq v262_r0 c4_i32_214_r0
  let c0_i32_215_r0 : BitVec 32 := 0#32
  let v264_r0 : BitVec 32 := Scalar.select v263_r0 c0_i32_215_r0 v262_r0
  let c1_i32_221_r0 : BitVec 32 := 1#32
  let v271_r0 : BitVec 32 := Scalar.addi v264_r0 c1_i32_221_r0
  let v272_r0 : BitVec 32 := Scalar.select true_222_r0 v271_r0 v264_r0
  let c4_i32_223_r0 : BitVec 32 := 4#32
  let v273_r0 : BitVec 1 := Scalar.cmpi .eq v272_r0 c4_i32_223_r0
  let c0_i32_224_r0 : BitVec 32 := 0#32
  let v274_r0 : BitVec 32 := Scalar.select v273_r0 c0_i32_224_r0 v272_r0
  let c1_i32_230_r0 : BitVec 32 := 1#32
  let v281_r0 : BitVec 32 := Scalar.addi v274_r0 c1_i32_230_r0
  let v282_r0 : BitVec 32 := Scalar.select true_231_r0 v281_r0 v274_r0
  let c4_i32_232_r0 : BitVec 32 := 4#32
  let v283_r0 : BitVec 1 := Scalar.cmpi .eq v282_r0 c4_i32_232_r0
  let c1_i32_207_r0 : BitVec 32 := 1#32
  let v255_r0 : BitVec 32 := Scalar.addi arg17_r0 c1_i32_207_r0
  let v256_r0 : BitVec 32 := Scalar.select v253_r0 v255_r0 arg17_r0
  let c32_i32_208_r0 : BitVec 32 := 32#32
  let v257_r0 : BitVec 1 := Scalar.cmpi .eq v256_r0 c32_i32_208_r0
  let c0_i32_209_r0 : BitVec 32 := 0#32
  let v258_r0 : BitVec 32 := Scalar.select v257_r0 c0_i32_209_r0 v256_r0
  let c1_i32_216_r0 : BitVec 32 := 1#32
  let v265_r0 : BitVec 32 := Scalar.addi v258_r0 c1_i32_216_r0
  let v266_r0 : BitVec 32 := Scalar.select v263_r0 v265_r0 v258_r0
  let c32_i32_217_r0 : BitVec 32 := 32#32
  let v267_r0 : BitVec 1 := Scalar.cmpi .eq v266_r0 c32_i32_217_r0
  let c0_i32_218_r0 : BitVec 32 := 0#32
  let v268_r0 : BitVec 32 := Scalar.select v267_r0 c0_i32_218_r0 v266_r0
  let c1_i32_225_r0 : BitVec 32 := 1#32
  let v275_r0 : BitVec 32 := Scalar.addi v268_r0 c1_i32_225_r0
  let v276_r0 : BitVec 32 := Scalar.select v273_r0 v275_r0 v268_r0
  let c32_i32_226_r0 : BitVec 32 := 32#32
  let v277_r0 : BitVec 1 := Scalar.cmpi .eq v276_r0 c32_i32_226_r0
  let c0_i32_227_r0 : BitVec 32 := 0#32
  let v278_r0 : BitVec 32 := Scalar.select v277_r0 c0_i32_227_r0 v276_r0
  let c1_i32_234_r0 : BitVec 32 := 1#32
  let v285_r0 : BitVec 32 := Scalar.addi v278_r0 c1_i32_234_r0
  let v286_r0 : BitVec 32 := Scalar.select v283_r0 v285_r0 v278_r0
  let c32_i32_235_r0 : BitVec 32 := 32#32
  let v287_r0 : BitVec 1 := Scalar.cmpi .eq v286_r0 c32_i32_235_r0
  let c0_i32_236_r0 : BitVec 32 := 0#32
  let v288_r0 : BitVec 32 := Scalar.select v287_r0 c0_i32_236_r0 v286_r0
  let c0_i32_237_r0 : BitVec 32 := 0#32
  let v289_r0 : BitVec 32 := Scalar.addi v288_r0 c0_i32_237_r0
  let true_240_r0 : BitVec 1 := 1#1
  let c0_i32_233_r0 : BitVec 32 := 0#32
  let v284_r0 : BitVec 32 := Scalar.select v283_r0 c0_i32_233_r0 v282_r0
  let c1_i32_239_r0 : BitVec 32 := 1#32
  let v291_r0 : BitVec 32 := Scalar.addi v284_r0 c1_i32_239_r0
  let v292_r0 : BitVec 32 := Scalar.select true_240_r0 v291_r0 v284_r0
  let c4_i32_241_r0 : BitVec 32 := 4#32
  let v293_r0 : BitVec 1 := Scalar.cmpi .eq v292_r0 c4_i32_241_r0
  let c1_i32_243_r0 : BitVec 32 := 1#32
  let v295_r0 : BitVec 32 := Scalar.addi v288_r0 c1_i32_243_r0
  let v296_r0 : BitVec 32 := Scalar.select v293_r0 v295_r0 v288_r0
  let c32_i32_244_r0 : BitVec 32 := 32#32
  let v297_r0 : BitVec 1 := Scalar.cmpi .eq v296_r0 c32_i32_244_r0
  let c0_i32_245_r0 : BitVec 32 := 0#32
  let v298_r0 : BitVec 32 := Scalar.select v297_r0 c0_i32_245_r0 v296_r0
  let c0_i32_246_r0 : BitVec 32 := 0#32
  let v299_r0 : BitVec 32 := Scalar.addi v298_r0 c0_i32_246_r0
  let v311_r0 : BitVec 1 := Scalar.cmpi .ne v289_r0 v299_r0
  let c0_i32_238_r0 : BitVec 32 := 0#32
  let v290_r0 : BitVec 32 := Scalar.addi v284_r0 c0_i32_238_r0
  let c0_i32_242_r0 : BitVec 32 := 0#32
  let v294_r0 : BitVec 32 := Scalar.select v293_r0 c0_i32_242_r0 v292_r0
  let c0_i32_247_r0 : BitVec 32 := 0#32
  let v300_r0 : BitVec 32 := Scalar.addi v294_r0 c0_i32_247_r0
  let v312_r0 : BitVec 1 := Scalar.cmpi .ne v290_r0 v300_r0
  let v313_r0 : BitVec 1 := Scalar.ori v311_r0 v312_r0
  let c0_i32_116_r0 : BitVec 32 := 0#32
  let c1_i32_117_r0 : BitVec 32 := 1#32
  let arg12_r0 : BitVec 32 := Scf.iv c0_i32_116_r0 c1_i32_117_r0 k0_t1
  let c123_i32_r0 : BitVec 32 := 123#32
  let v314_r0 : BitVec 1 := Scalar.cmpi .sge arg12_r0 c123_i32_r0
  let true_257_r0 : BitVec 1 := 1#1
  let v315_r0 : BitVec 1 := Scalar.xori v314_r0 true_257_r0
  let v316_r0 : BitVec 1 := Scalar.andi v313_r0 v315_r0
  let true_258_r0 : BitVec 1 := 1#1
  let v317_r0 : BitVec 1 := Scalar.andi v316_r0 true_258_r0
  let v318_r0 : BitVec 32 := Scalar.extui v317_r0
  let c0_i32_259_r0 : BitVec 32 := 0#32
  let v319_r0 : BitVec 1 := Scalar.cmpi .ne v318_r0 c0_i32_259_r0
  v319_r0

def k0_off28 (arg13_r0 : BitVec 32) : Fin 3 → Nat :=
  let c6_i32_324_r0 : BitVec 32 := 6#32
  let v469_r0 : BitVec 32 := Scalar.remui arg13_r0 c6_i32_324_r0
  let c0_i32_327_r0 : BitVec 32 := 0#32
  let c0_i32_328_r0 : BitVec 32 := 0#32
  ![v469_r0.toNat, 0, 0]
def k0_off29 (arg17_r0 : BitVec 32) (arg18_r0 : BitVec 32) : Fin 2 → Nat :=
  let c256_i32_325_r0 : BitVec 32 := 256#32
  let true_240_r0 : BitVec 1 := 1#1
  let true_231_r0 : BitVec 1 := 1#1
  let true_222_r0 : BitVec 1 := 1#1
  let true_213_r0 : BitVec 1 := 1#1
  let true_204_r0 : BitVec 1 := 1#1
  let c1_i32_203_r0 : BitVec 32 := 1#32
  let v251_r0 : BitVec 32 := Scalar.addi arg18_r0 c1_i32_203_r0
  let v252_r0 : BitVec 32 := Scalar.select true_204_r0 v251_r0 arg18_r0
  let c4_i32_205_r0 : BitVec 32 := 4#32
  let v253_r0 : BitVec 1 := Scalar.cmpi .eq v252_r0 c4_i32_205_r0
  let c0_i32_206_r0 : BitVec 32 := 0#32
  let v254_r0 : BitVec 32 := Scalar.select v253_r0 c0_i32_206_r0 v252_r0
  let c1_i32_212_r0 : BitVec 32 := 1#32
  let v261_r0 : BitVec 32 := Scalar.addi v254_r0 c1_i32_212_r0
  let v262_r0 : BitVec 32 := Scalar.select true_213_r0 v261_r0 v254_r0
  let c4_i32_214_r0 : BitVec 32 := 4#32
  let v263_r0 : BitVec 1 := Scalar.cmpi .eq v262_r0 c4_i32_214_r0
  let c0_i32_215_r0 : BitVec 32 := 0#32
  let v264_r0 : BitVec 32 := Scalar.select v263_r0 c0_i32_215_r0 v262_r0
  let c1_i32_221_r0 : BitVec 32 := 1#32
  let v271_r0 : BitVec 32 := Scalar.addi v264_r0 c1_i32_221_r0
  let v272_r0 : BitVec 32 := Scalar.select true_222_r0 v271_r0 v264_r0
  let c4_i32_223_r0 : BitVec 32 := 4#32
  let v273_r0 : BitVec 1 := Scalar.cmpi .eq v272_r0 c4_i32_223_r0
  let c0_i32_224_r0 : BitVec 32 := 0#32
  let v274_r0 : BitVec 32 := Scalar.select v273_r0 c0_i32_224_r0 v272_r0
  let c1_i32_230_r0 : BitVec 32 := 1#32
  let v281_r0 : BitVec 32 := Scalar.addi v274_r0 c1_i32_230_r0
  let v282_r0 : BitVec 32 := Scalar.select true_231_r0 v281_r0 v274_r0
  let c4_i32_232_r0 : BitVec 32 := 4#32
  let v283_r0 : BitVec 1 := Scalar.cmpi .eq v282_r0 c4_i32_232_r0
  let c0_i32_233_r0 : BitVec 32 := 0#32
  let v284_r0 : BitVec 32 := Scalar.select v283_r0 c0_i32_233_r0 v282_r0
  let c1_i32_239_r0 : BitVec 32 := 1#32
  let v291_r0 : BitVec 32 := Scalar.addi v284_r0 c1_i32_239_r0
  let v292_r0 : BitVec 32 := Scalar.select true_240_r0 v291_r0 v284_r0
  let c4_i32_241_r0 : BitVec 32 := 4#32
  let v293_r0 : BitVec 1 := Scalar.cmpi .eq v292_r0 c4_i32_241_r0
  let c1_i32_207_r0 : BitVec 32 := 1#32
  let v255_r0 : BitVec 32 := Scalar.addi arg17_r0 c1_i32_207_r0
  let v256_r0 : BitVec 32 := Scalar.select v253_r0 v255_r0 arg17_r0
  let c32_i32_208_r0 : BitVec 32 := 32#32
  let v257_r0 : BitVec 1 := Scalar.cmpi .eq v256_r0 c32_i32_208_r0
  let c0_i32_209_r0 : BitVec 32 := 0#32
  let v258_r0 : BitVec 32 := Scalar.select v257_r0 c0_i32_209_r0 v256_r0
  let c1_i32_216_r0 : BitVec 32 := 1#32
  let v265_r0 : BitVec 32 := Scalar.addi v258_r0 c1_i32_216_r0
  let v266_r0 : BitVec 32 := Scalar.select v263_r0 v265_r0 v258_r0
  let c32_i32_217_r0 : BitVec 32 := 32#32
  let v267_r0 : BitVec 1 := Scalar.cmpi .eq v266_r0 c32_i32_217_r0
  let c0_i32_218_r0 : BitVec 32 := 0#32
  let v268_r0 : BitVec 32 := Scalar.select v267_r0 c0_i32_218_r0 v266_r0
  let c1_i32_225_r0 : BitVec 32 := 1#32
  let v275_r0 : BitVec 32 := Scalar.addi v268_r0 c1_i32_225_r0
  let v276_r0 : BitVec 32 := Scalar.select v273_r0 v275_r0 v268_r0
  let c32_i32_226_r0 : BitVec 32 := 32#32
  let v277_r0 : BitVec 1 := Scalar.cmpi .eq v276_r0 c32_i32_226_r0
  let c0_i32_227_r0 : BitVec 32 := 0#32
  let v278_r0 : BitVec 32 := Scalar.select v277_r0 c0_i32_227_r0 v276_r0
  let c1_i32_234_r0 : BitVec 32 := 1#32
  let v285_r0 : BitVec 32 := Scalar.addi v278_r0 c1_i32_234_r0
  let v286_r0 : BitVec 32 := Scalar.select v283_r0 v285_r0 v278_r0
  let c32_i32_235_r0 : BitVec 32 := 32#32
  let v287_r0 : BitVec 1 := Scalar.cmpi .eq v286_r0 c32_i32_235_r0
  let c0_i32_236_r0 : BitVec 32 := 0#32
  let v288_r0 : BitVec 32 := Scalar.select v287_r0 c0_i32_236_r0 v286_r0
  let c1_i32_243_r0 : BitVec 32 := 1#32
  let v295_r0 : BitVec 32 := Scalar.addi v288_r0 c1_i32_243_r0
  let v296_r0 : BitVec 32 := Scalar.select v293_r0 v295_r0 v288_r0
  let c32_i32_244_r0 : BitVec 32 := 32#32
  let v297_r0 : BitVec 1 := Scalar.cmpi .eq v296_r0 c32_i32_244_r0
  let c0_i32_245_r0 : BitVec 32 := 0#32
  let v298_r0 : BitVec 32 := Scalar.select v297_r0 c0_i32_245_r0 v296_r0
  let c0_i32_246_r0 : BitVec 32 := 0#32
  let v299_r0 : BitVec 32 := Scalar.addi v298_r0 c0_i32_246_r0
  let v470_r0 : BitVec 32 := Scalar.muli c256_i32_325_r0 v299_r0
  let c2048_i32_326_r0 : BitVec 32 := 2048#32
  let c0_i32_242_r0 : BitVec 32 := 0#32
  let v294_r0 : BitVec 32 := Scalar.select v293_r0 c0_i32_242_r0 v292_r0
  let c0_i32_247_r0 : BitVec 32 := 0#32
  let v300_r0 : BitVec 32 := Scalar.addi v294_r0 c0_i32_247_r0
  let v471_r0 : BitVec 32 := Scalar.muli c2048_i32_326_r0 v300_r0
  ![v470_r0.toNat, v471_r0.toNat]
def k0_off30 (arg15_r0 : BitVec 32) : Fin 1 → Nat :=
  let c6_i32_324_r0 : BitVec 32 := 6#32
  let v469_r0 : BitVec 32 := Scalar.remui arg15_r0 c6_i32_324_r0
  ![v469_r0.toNat]
def k0_cond10 (k0_t1 : Fin k0_t1_loop.trips) (arg17_r0 : BitVec 32) (arg18_r0 : BitVec 32) : BitVec 1 :=
  let true_231_r0 : BitVec 1 := 1#1
  let true_222_r0 : BitVec 1 := 1#1
  let true_213_r0 : BitVec 1 := 1#1
  let true_204_r0 : BitVec 1 := 1#1
  let c1_i32_203_r0 : BitVec 32 := 1#32
  let v251_r0 : BitVec 32 := Scalar.addi arg18_r0 c1_i32_203_r0
  let v252_r0 : BitVec 32 := Scalar.select true_204_r0 v251_r0 arg18_r0
  let c4_i32_205_r0 : BitVec 32 := 4#32
  let v253_r0 : BitVec 1 := Scalar.cmpi .eq v252_r0 c4_i32_205_r0
  let c0_i32_206_r0 : BitVec 32 := 0#32
  let v254_r0 : BitVec 32 := Scalar.select v253_r0 c0_i32_206_r0 v252_r0
  let c1_i32_212_r0 : BitVec 32 := 1#32
  let v261_r0 : BitVec 32 := Scalar.addi v254_r0 c1_i32_212_r0
  let v262_r0 : BitVec 32 := Scalar.select true_213_r0 v261_r0 v254_r0
  let c4_i32_214_r0 : BitVec 32 := 4#32
  let v263_r0 : BitVec 1 := Scalar.cmpi .eq v262_r0 c4_i32_214_r0
  let c0_i32_215_r0 : BitVec 32 := 0#32
  let v264_r0 : BitVec 32 := Scalar.select v263_r0 c0_i32_215_r0 v262_r0
  let c1_i32_221_r0 : BitVec 32 := 1#32
  let v271_r0 : BitVec 32 := Scalar.addi v264_r0 c1_i32_221_r0
  let v272_r0 : BitVec 32 := Scalar.select true_222_r0 v271_r0 v264_r0
  let c4_i32_223_r0 : BitVec 32 := 4#32
  let v273_r0 : BitVec 1 := Scalar.cmpi .eq v272_r0 c4_i32_223_r0
  let c0_i32_224_r0 : BitVec 32 := 0#32
  let v274_r0 : BitVec 32 := Scalar.select v273_r0 c0_i32_224_r0 v272_r0
  let c1_i32_230_r0 : BitVec 32 := 1#32
  let v281_r0 : BitVec 32 := Scalar.addi v274_r0 c1_i32_230_r0
  let v282_r0 : BitVec 32 := Scalar.select true_231_r0 v281_r0 v274_r0
  let c4_i32_232_r0 : BitVec 32 := 4#32
  let v283_r0 : BitVec 1 := Scalar.cmpi .eq v282_r0 c4_i32_232_r0
  let c1_i32_207_r0 : BitVec 32 := 1#32
  let v255_r0 : BitVec 32 := Scalar.addi arg17_r0 c1_i32_207_r0
  let v256_r0 : BitVec 32 := Scalar.select v253_r0 v255_r0 arg17_r0
  let c32_i32_208_r0 : BitVec 32 := 32#32
  let v257_r0 : BitVec 1 := Scalar.cmpi .eq v256_r0 c32_i32_208_r0
  let c0_i32_209_r0 : BitVec 32 := 0#32
  let v258_r0 : BitVec 32 := Scalar.select v257_r0 c0_i32_209_r0 v256_r0
  let c1_i32_216_r0 : BitVec 32 := 1#32
  let v265_r0 : BitVec 32 := Scalar.addi v258_r0 c1_i32_216_r0
  let v266_r0 : BitVec 32 := Scalar.select v263_r0 v265_r0 v258_r0
  let c32_i32_217_r0 : BitVec 32 := 32#32
  let v267_r0 : BitVec 1 := Scalar.cmpi .eq v266_r0 c32_i32_217_r0
  let c0_i32_218_r0 : BitVec 32 := 0#32
  let v268_r0 : BitVec 32 := Scalar.select v267_r0 c0_i32_218_r0 v266_r0
  let c1_i32_225_r0 : BitVec 32 := 1#32
  let v275_r0 : BitVec 32 := Scalar.addi v268_r0 c1_i32_225_r0
  let v276_r0 : BitVec 32 := Scalar.select v273_r0 v275_r0 v268_r0
  let c32_i32_226_r0 : BitVec 32 := 32#32
  let v277_r0 : BitVec 1 := Scalar.cmpi .eq v276_r0 c32_i32_226_r0
  let c0_i32_227_r0 : BitVec 32 := 0#32
  let v278_r0 : BitVec 32 := Scalar.select v277_r0 c0_i32_227_r0 v276_r0
  let c1_i32_234_r0 : BitVec 32 := 1#32
  let v285_r0 : BitVec 32 := Scalar.addi v278_r0 c1_i32_234_r0
  let v286_r0 : BitVec 32 := Scalar.select v283_r0 v285_r0 v278_r0
  let c32_i32_235_r0 : BitVec 32 := 32#32
  let v287_r0 : BitVec 1 := Scalar.cmpi .eq v286_r0 c32_i32_235_r0
  let c0_i32_236_r0 : BitVec 32 := 0#32
  let v288_r0 : BitVec 32 := Scalar.select v287_r0 c0_i32_236_r0 v286_r0
  let c0_i32_237_r0 : BitVec 32 := 0#32
  let v289_r0 : BitVec 32 := Scalar.addi v288_r0 c0_i32_237_r0
  let true_240_r0 : BitVec 1 := 1#1
  let c0_i32_233_r0 : BitVec 32 := 0#32
  let v284_r0 : BitVec 32 := Scalar.select v283_r0 c0_i32_233_r0 v282_r0
  let c1_i32_239_r0 : BitVec 32 := 1#32
  let v291_r0 : BitVec 32 := Scalar.addi v284_r0 c1_i32_239_r0
  let v292_r0 : BitVec 32 := Scalar.select true_240_r0 v291_r0 v284_r0
  let c4_i32_241_r0 : BitVec 32 := 4#32
  let v293_r0 : BitVec 1 := Scalar.cmpi .eq v292_r0 c4_i32_241_r0
  let c1_i32_243_r0 : BitVec 32 := 1#32
  let v295_r0 : BitVec 32 := Scalar.addi v288_r0 c1_i32_243_r0
  let v296_r0 : BitVec 32 := Scalar.select v293_r0 v295_r0 v288_r0
  let c32_i32_244_r0 : BitVec 32 := 32#32
  let v297_r0 : BitVec 1 := Scalar.cmpi .eq v296_r0 c32_i32_244_r0
  let c0_i32_245_r0 : BitVec 32 := 0#32
  let v298_r0 : BitVec 32 := Scalar.select v297_r0 c0_i32_245_r0 v296_r0
  let c0_i32_246_r0 : BitVec 32 := 0#32
  let v299_r0 : BitVec 32 := Scalar.addi v298_r0 c0_i32_246_r0
  let v323_r0 : BitVec 1 := Scalar.cmpi .ne v289_r0 v299_r0
  let c0_i32_238_r0 : BitVec 32 := 0#32
  let v290_r0 : BitVec 32 := Scalar.addi v284_r0 c0_i32_238_r0
  let c0_i32_242_r0 : BitVec 32 := 0#32
  let v294_r0 : BitVec 32 := Scalar.select v293_r0 c0_i32_242_r0 v292_r0
  let c0_i32_247_r0 : BitVec 32 := 0#32
  let v300_r0 : BitVec 32 := Scalar.addi v294_r0 c0_i32_247_r0
  let v324_r0 : BitVec 1 := Scalar.cmpi .ne v290_r0 v300_r0
  let v325_r0 : BitVec 1 := Scalar.ori v323_r0 v324_r0
  let c0_i32_116_r0 : BitVec 32 := 0#32
  let c1_i32_117_r0 : BitVec 32 := 1#32
  let arg12_r0 : BitVec 32 := Scf.iv c0_i32_116_r0 c1_i32_117_r0 k0_t1
  let c123_i32_262_r0 : BitVec 32 := 123#32
  let v326_r0 : BitVec 1 := Scalar.cmpi .sge arg12_r0 c123_i32_262_r0
  let true_263_r0 : BitVec 1 := 1#1
  let v327_r0 : BitVec 1 := Scalar.xori v326_r0 true_263_r0
  let v328_r0 : BitVec 1 := Scalar.andi v325_r0 v327_r0
  let true_264_r0 : BitVec 1 := 1#1
  let v329_r0 : BitVec 1 := Scalar.andi v328_r0 true_264_r0
  let v330_r0 : BitVec 32 := Scalar.extui v329_r0
  let c0_i32_265_r0 : BitVec 32 := 0#32
  let v331_r0 : BitVec 1 := Scalar.cmpi .ne v330_r0 c0_i32_265_r0
  v331_r0

def k0_off31 (arg15_r0 : BitVec 32) : Fin 3 → Nat :=
  let c6_i32_324_r0 : BitVec 32 := 6#32
  let v469_r0 : BitVec 32 := Scalar.remui arg15_r0 c6_i32_324_r0
  let c0_i32_327_r0 : BitVec 32 := 0#32
  let c0_i32_328_r0 : BitVec 32 := 0#32
  ![v469_r0.toNat, 0, 0]
def k0_off32 (arg17_r0 : BitVec 32) (arg18_r0 : BitVec 32) : Fin 2 → Nat :=
  let c256_i32_325_r0 : BitVec 32 := 256#32
  let true_240_r0 : BitVec 1 := 1#1
  let true_231_r0 : BitVec 1 := 1#1
  let true_222_r0 : BitVec 1 := 1#1
  let true_213_r0 : BitVec 1 := 1#1
  let true_204_r0 : BitVec 1 := 1#1
  let c1_i32_203_r0 : BitVec 32 := 1#32
  let v251_r0 : BitVec 32 := Scalar.addi arg18_r0 c1_i32_203_r0
  let v252_r0 : BitVec 32 := Scalar.select true_204_r0 v251_r0 arg18_r0
  let c4_i32_205_r0 : BitVec 32 := 4#32
  let v253_r0 : BitVec 1 := Scalar.cmpi .eq v252_r0 c4_i32_205_r0
  let c0_i32_206_r0 : BitVec 32 := 0#32
  let v254_r0 : BitVec 32 := Scalar.select v253_r0 c0_i32_206_r0 v252_r0
  let c1_i32_212_r0 : BitVec 32 := 1#32
  let v261_r0 : BitVec 32 := Scalar.addi v254_r0 c1_i32_212_r0
  let v262_r0 : BitVec 32 := Scalar.select true_213_r0 v261_r0 v254_r0
  let c4_i32_214_r0 : BitVec 32 := 4#32
  let v263_r0 : BitVec 1 := Scalar.cmpi .eq v262_r0 c4_i32_214_r0
  let c0_i32_215_r0 : BitVec 32 := 0#32
  let v264_r0 : BitVec 32 := Scalar.select v263_r0 c0_i32_215_r0 v262_r0
  let c1_i32_221_r0 : BitVec 32 := 1#32
  let v271_r0 : BitVec 32 := Scalar.addi v264_r0 c1_i32_221_r0
  let v272_r0 : BitVec 32 := Scalar.select true_222_r0 v271_r0 v264_r0
  let c4_i32_223_r0 : BitVec 32 := 4#32
  let v273_r0 : BitVec 1 := Scalar.cmpi .eq v272_r0 c4_i32_223_r0
  let c0_i32_224_r0 : BitVec 32 := 0#32
  let v274_r0 : BitVec 32 := Scalar.select v273_r0 c0_i32_224_r0 v272_r0
  let c1_i32_230_r0 : BitVec 32 := 1#32
  let v281_r0 : BitVec 32 := Scalar.addi v274_r0 c1_i32_230_r0
  let v282_r0 : BitVec 32 := Scalar.select true_231_r0 v281_r0 v274_r0
  let c4_i32_232_r0 : BitVec 32 := 4#32
  let v283_r0 : BitVec 1 := Scalar.cmpi .eq v282_r0 c4_i32_232_r0
  let c0_i32_233_r0 : BitVec 32 := 0#32
  let v284_r0 : BitVec 32 := Scalar.select v283_r0 c0_i32_233_r0 v282_r0
  let c1_i32_239_r0 : BitVec 32 := 1#32
  let v291_r0 : BitVec 32 := Scalar.addi v284_r0 c1_i32_239_r0
  let v292_r0 : BitVec 32 := Scalar.select true_240_r0 v291_r0 v284_r0
  let c4_i32_241_r0 : BitVec 32 := 4#32
  let v293_r0 : BitVec 1 := Scalar.cmpi .eq v292_r0 c4_i32_241_r0
  let c1_i32_207_r0 : BitVec 32 := 1#32
  let v255_r0 : BitVec 32 := Scalar.addi arg17_r0 c1_i32_207_r0
  let v256_r0 : BitVec 32 := Scalar.select v253_r0 v255_r0 arg17_r0
  let c32_i32_208_r0 : BitVec 32 := 32#32
  let v257_r0 : BitVec 1 := Scalar.cmpi .eq v256_r0 c32_i32_208_r0
  let c0_i32_209_r0 : BitVec 32 := 0#32
  let v258_r0 : BitVec 32 := Scalar.select v257_r0 c0_i32_209_r0 v256_r0
  let c1_i32_216_r0 : BitVec 32 := 1#32
  let v265_r0 : BitVec 32 := Scalar.addi v258_r0 c1_i32_216_r0
  let v266_r0 : BitVec 32 := Scalar.select v263_r0 v265_r0 v258_r0
  let c32_i32_217_r0 : BitVec 32 := 32#32
  let v267_r0 : BitVec 1 := Scalar.cmpi .eq v266_r0 c32_i32_217_r0
  let c0_i32_218_r0 : BitVec 32 := 0#32
  let v268_r0 : BitVec 32 := Scalar.select v267_r0 c0_i32_218_r0 v266_r0
  let c1_i32_225_r0 : BitVec 32 := 1#32
  let v275_r0 : BitVec 32 := Scalar.addi v268_r0 c1_i32_225_r0
  let v276_r0 : BitVec 32 := Scalar.select v273_r0 v275_r0 v268_r0
  let c32_i32_226_r0 : BitVec 32 := 32#32
  let v277_r0 : BitVec 1 := Scalar.cmpi .eq v276_r0 c32_i32_226_r0
  let c0_i32_227_r0 : BitVec 32 := 0#32
  let v278_r0 : BitVec 32 := Scalar.select v277_r0 c0_i32_227_r0 v276_r0
  let c1_i32_234_r0 : BitVec 32 := 1#32
  let v285_r0 : BitVec 32 := Scalar.addi v278_r0 c1_i32_234_r0
  let v286_r0 : BitVec 32 := Scalar.select v283_r0 v285_r0 v278_r0
  let c32_i32_235_r0 : BitVec 32 := 32#32
  let v287_r0 : BitVec 1 := Scalar.cmpi .eq v286_r0 c32_i32_235_r0
  let c0_i32_236_r0 : BitVec 32 := 0#32
  let v288_r0 : BitVec 32 := Scalar.select v287_r0 c0_i32_236_r0 v286_r0
  let c1_i32_243_r0 : BitVec 32 := 1#32
  let v295_r0 : BitVec 32 := Scalar.addi v288_r0 c1_i32_243_r0
  let v296_r0 : BitVec 32 := Scalar.select v293_r0 v295_r0 v288_r0
  let c32_i32_244_r0 : BitVec 32 := 32#32
  let v297_r0 : BitVec 1 := Scalar.cmpi .eq v296_r0 c32_i32_244_r0
  let c0_i32_245_r0 : BitVec 32 := 0#32
  let v298_r0 : BitVec 32 := Scalar.select v297_r0 c0_i32_245_r0 v296_r0
  let c0_i32_246_r0 : BitVec 32 := 0#32
  let v299_r0 : BitVec 32 := Scalar.addi v298_r0 c0_i32_246_r0
  let v470_r0 : BitVec 32 := Scalar.muli c256_i32_325_r0 v299_r0
  let c2048_i32_326_r0 : BitVec 32 := 2048#32
  let c0_i32_242_r0 : BitVec 32 := 0#32
  let v294_r0 : BitVec 32 := Scalar.select v293_r0 c0_i32_242_r0 v292_r0
  let c0_i32_247_r0 : BitVec 32 := 0#32
  let v300_r0 : BitVec 32 := Scalar.addi v294_r0 c0_i32_247_r0
  let v471_r0 : BitVec 32 := Scalar.muli c2048_i32_326_r0 v300_r0
  ![v470_r0.toNat, v471_r0.toNat]
def k0_off33 (arg14_r0 : BitVec 32) : Fin 1 → Nat :=
  let c6_i32_326_r0 : BitVec 32 := 6#32
  let v471_r0 : BitVec 32 := Scalar.remui arg14_r0 c6_i32_326_r0
  ![v471_r0.toNat]
def k0_cond11 (k0_t1 : Fin k0_t1_loop.trips) (arg17_r0 : BitVec 32) (arg18_r0 : BitVec 32) : BitVec 1 :=
  let c0_i32_192_r0 : BitVec 32 := 0#32
  let v239_r0 : BitVec 32 := Scalar.addi arg17_r0 c0_i32_192_r0
  let true_195_r0 : BitVec 1 := 1#1
  let c1_i32_194_r0 : BitVec 32 := 1#32
  let v241_r0 : BitVec 32 := Scalar.subi arg18_r0 c1_i32_194_r0
  let v242_r0 : BitVec 32 := Scalar.select true_195_r0 v241_r0 arg18_r0
  let c_m1_i32_196_r0 : BitVec 32 := 4294967295#32
  let v243_r0 : BitVec 1 := Scalar.cmpi .eq v242_r0 c_m1_i32_196_r0
  let c1_i32_198_r0 : BitVec 32 := 1#32
  let v245_r0 : BitVec 32 := Scalar.subi arg17_r0 c1_i32_198_r0
  let v246_r0 : BitVec 32 := Scalar.select v243_r0 v245_r0 arg17_r0
  let c_m1_i32_199_r0 : BitVec 32 := 4294967295#32
  let v247_r0 : BitVec 1 := Scalar.cmpi .eq v246_r0 c_m1_i32_199_r0
  let c31_i32_200_r0 : BitVec 32 := 31#32
  let v248_r0 : BitVec 32 := Scalar.select v247_r0 c31_i32_200_r0 v246_r0
  let c0_i32_201_r0 : BitVec 32 := 0#32
  let v249_r0 : BitVec 32 := Scalar.addi v248_r0 c0_i32_201_r0
  let v335_r0 : BitVec 1 := Scalar.cmpi .ne v239_r0 v249_r0
  let c0_i32_193_r0 : BitVec 32 := 0#32
  let v240_r0 : BitVec 32 := Scalar.addi arg18_r0 c0_i32_193_r0
  let c3_i32_197_r0 : BitVec 32 := 3#32
  let v244_r0 : BitVec 32 := Scalar.select v243_r0 c3_i32_197_r0 v242_r0
  let c0_i32_202_r0 : BitVec 32 := 0#32
  let v250_r0 : BitVec 32 := Scalar.addi v244_r0 c0_i32_202_r0
  let v336_r0 : BitVec 1 := Scalar.cmpi .ne v240_r0 v250_r0
  let v337_r0 : BitVec 1 := Scalar.ori v335_r0 v336_r0
  let c0_i32_116_r0 : BitVec 32 := 0#32
  let c1_i32_117_r0 : BitVec 32 := 1#32
  let arg12_r0 : BitVec 32 := Scf.iv c0_i32_116_r0 c1_i32_117_r0 k0_t1
  let c0_i32_191_r0 : BitVec 32 := 0#32
  let v237_r0 : BitVec 1 := Scalar.cmpi .eq arg12_r0 c0_i32_191_r0
  let v338_r0 : BitVec 1 := Scalar.ori v337_r0 v237_r0
  let c0_i32_268_r0 : BitVec 32 := 0#32
  let v339_r0 : BitVec 1 := Scalar.cmpi .sge arg12_r0 c0_i32_268_r0
  let v340_r0 : BitVec 1 := Scalar.andi v338_r0 v339_r0
  let v341_r0 : BitVec 32 := Scalar.extui v340_r0
  let c0_i32_269_r0 : BitVec 32 := 0#32
  let v342_r0 : BitVec 1 := Scalar.cmpi .ne v341_r0 c0_i32_269_r0
  v342_r0

def k0_off34 (arg14_r0 : BitVec 32) : Fin 3 → Nat :=
  let c6_i32_326_r0 : BitVec 32 := 6#32
  let v471_r0 : BitVec 32 := Scalar.remui arg14_r0 c6_i32_326_r0
  let c0_i32_327_r0 : BitVec 32 := 0#32
  let c0_i32_328_r0 : BitVec 32 := 0#32
  ![v471_r0.toNat, 0, 0]
def k0_off35 (arg17_r0 : BitVec 32) (arg18_r0 : BitVec 32) : Fin 2 → Nat :=
  let c256_i32_324_r0 : BitVec 32 := 256#32
  let c0_i32_192_r0 : BitVec 32 := 0#32
  let v239_r0 : BitVec 32 := Scalar.addi arg17_r0 c0_i32_192_r0
  let v469_r0 : BitVec 32 := Scalar.muli c256_i32_324_r0 v239_r0
  let c2048_i32_325_r0 : BitVec 32 := 2048#32
  let c0_i32_193_r0 : BitVec 32 := 0#32
  let v240_r0 : BitVec 32 := Scalar.addi arg18_r0 c0_i32_193_r0
  let v470_r0 : BitVec 32 := Scalar.muli c2048_i32_325_r0 v240_r0
  ![v469_r0.toNat, v470_r0.toNat]
def k0_off36 (arg16_r0 : BitVec 32) : Fin 1 → Nat :=
  let c6_i32_326_r0 : BitVec 32 := 6#32
  let v471_r0 : BitVec 32 := Scalar.remui arg16_r0 c6_i32_326_r0
  ![v471_r0.toNat]
def k0_cond12 (k0_t1 : Fin k0_t1_loop.trips) (arg17_r0 : BitVec 32) (arg18_r0 : BitVec 32) : BitVec 1 :=
  let c0_i32_192_r0 : BitVec 32 := 0#32
  let v239_r0 : BitVec 32 := Scalar.addi arg17_r0 c0_i32_192_r0
  let true_195_r0 : BitVec 1 := 1#1
  let c1_i32_194_r0 : BitVec 32 := 1#32
  let v241_r0 : BitVec 32 := Scalar.subi arg18_r0 c1_i32_194_r0
  let v242_r0 : BitVec 32 := Scalar.select true_195_r0 v241_r0 arg18_r0
  let c_m1_i32_196_r0 : BitVec 32 := 4294967295#32
  let v243_r0 : BitVec 1 := Scalar.cmpi .eq v242_r0 c_m1_i32_196_r0
  let c1_i32_198_r0 : BitVec 32 := 1#32
  let v245_r0 : BitVec 32 := Scalar.subi arg17_r0 c1_i32_198_r0
  let v246_r0 : BitVec 32 := Scalar.select v243_r0 v245_r0 arg17_r0
  let c_m1_i32_199_r0 : BitVec 32 := 4294967295#32
  let v247_r0 : BitVec 1 := Scalar.cmpi .eq v246_r0 c_m1_i32_199_r0
  let c31_i32_200_r0 : BitVec 32 := 31#32
  let v248_r0 : BitVec 32 := Scalar.select v247_r0 c31_i32_200_r0 v246_r0
  let c0_i32_201_r0 : BitVec 32 := 0#32
  let v249_r0 : BitVec 32 := Scalar.addi v248_r0 c0_i32_201_r0
  let v343_r0 : BitVec 1 := Scalar.cmpi .ne v239_r0 v249_r0
  let c0_i32_193_r0 : BitVec 32 := 0#32
  let v240_r0 : BitVec 32 := Scalar.addi arg18_r0 c0_i32_193_r0
  let c3_i32_197_r0 : BitVec 32 := 3#32
  let v244_r0 : BitVec 32 := Scalar.select v243_r0 c3_i32_197_r0 v242_r0
  let c0_i32_202_r0 : BitVec 32 := 0#32
  let v250_r0 : BitVec 32 := Scalar.addi v244_r0 c0_i32_202_r0
  let v344_r0 : BitVec 1 := Scalar.cmpi .ne v240_r0 v250_r0
  let v345_r0 : BitVec 1 := Scalar.ori v343_r0 v344_r0
  let c0_i32_116_r0 : BitVec 32 := 0#32
  let c1_i32_117_r0 : BitVec 32 := 1#32
  let arg12_r0 : BitVec 32 := Scf.iv c0_i32_116_r0 c1_i32_117_r0 k0_t1
  let c0_i32_191_r0 : BitVec 32 := 0#32
  let v237_r0 : BitVec 1 := Scalar.cmpi .eq arg12_r0 c0_i32_191_r0
  let v346_r0 : BitVec 1 := Scalar.ori v345_r0 v237_r0
  let c0_i32_270_r0 : BitVec 32 := 0#32
  let v347_r0 : BitVec 1 := Scalar.cmpi .sge arg12_r0 c0_i32_270_r0
  let v348_r0 : BitVec 1 := Scalar.andi v346_r0 v347_r0
  let v349_r0 : BitVec 32 := Scalar.extui v348_r0
  let c0_i32_271_r0 : BitVec 32 := 0#32
  let v350_r0 : BitVec 1 := Scalar.cmpi .ne v349_r0 c0_i32_271_r0
  v350_r0

def k0_off37 (arg16_r0 : BitVec 32) : Fin 3 → Nat :=
  let c6_i32_326_r0 : BitVec 32 := 6#32
  let v471_r0 : BitVec 32 := Scalar.remui arg16_r0 c6_i32_326_r0
  let c0_i32_327_r0 : BitVec 32 := 0#32
  let c0_i32_328_r0 : BitVec 32 := 0#32
  ![v471_r0.toNat, 0, 0]
def k0_off38 (arg17_r0 : BitVec 32) (arg18_r0 : BitVec 32) : Fin 2 → Nat :=
  let c256_i32_324_r0 : BitVec 32 := 256#32
  let c0_i32_192_r0 : BitVec 32 := 0#32
  let v239_r0 : BitVec 32 := Scalar.addi arg17_r0 c0_i32_192_r0
  let v469_r0 : BitVec 32 := Scalar.muli c256_i32_324_r0 v239_r0
  let c2048_i32_325_r0 : BitVec 32 := 2048#32
  let c0_i32_193_r0 : BitVec 32 := 0#32
  let v240_r0 : BitVec 32 := Scalar.addi arg18_r0 c0_i32_193_r0
  let v470_r0 : BitVec 32 := Scalar.muli c2048_i32_325_r0 v240_r0
  ![v469_r0.toNat, v470_r0.toNat]

def k0_chk1 (k0_t1 : Fin k0_t1_loop.trips) (arg13_r0 : BitVec 32) (arg14_r0 : BitVec 32) (arg15_r0 : BitVec 32) (arg16_r0 : BitVec 32) (arg17_r0 : BitVec 32) (arg18_r0 : BitVec 32) : Prop :=
  (∀ (k0_h9 : k0_cond9 k0_t1 arg17_r0 arg18_r0 = 1#1), ∀ a, (k0_off27 arg13_r0) a + S1.size a ≤ S6.size a) ∧
  (∀ (k0_h9 : k0_cond9 k0_t1 arg17_r0 arg18_r0 = 1#1), ∀ a, (k0_off28 arg13_r0) a + S1x256x2048.size a ≤ S6x256x2048.size a) ∧
  (∀ (k0_h9 : k0_cond9 k0_t1 arg17_r0 arg18_r0 = 1#1), ∀ a, (k0_off29 arg17_r0 arg18_r0) a + S256x2048.size a ≤ S8192x8192.size a) ∧
  (∀ (k0_h10 : k0_cond10 k0_t1 arg17_r0 arg18_r0 = 1#1), ∀ a, (k0_off30 arg15_r0) a + S1.size a ≤ S6.size a) ∧
  (∀ (k0_h10 : k0_cond10 k0_t1 arg17_r0 arg18_r0 = 1#1), ∀ a, (k0_off31 arg15_r0) a + S1x256x2048.size a ≤ S6x256x2048.size a) ∧
  (∀ (k0_h10 : k0_cond10 k0_t1 arg17_r0 arg18_r0 = 1#1), ∀ a, (k0_off32 arg17_r0 arg18_r0) a + S256x2048.size a ≤ S8192x8192.size a) ∧
  (∀ (k0_h11 : k0_cond11 k0_t1 arg17_r0 arg18_r0 = 1#1), ∀ a, (k0_off33 arg14_r0) a + S1.size a ≤ S6.size a) ∧
  (∀ (k0_h11 : k0_cond11 k0_t1 arg17_r0 arg18_r0 = 1#1), ∀ a, (k0_off34 arg14_r0) a + S1x256x2048.size a ≤ S6x256x2048.size a) ∧
  (∀ (k0_h11 : k0_cond11 k0_t1 arg17_r0 arg18_r0 = 1#1), ∀ a, (k0_off35 arg17_r0 arg18_r0) a + S256x2048.size a ≤ S8192x8192.size a) ∧
  (∀ (k0_h12 : k0_cond12 k0_t1 arg17_r0 arg18_r0 = 1#1), ∀ a, (k0_off36 arg16_r0) a + S1.size a ≤ S6.size a) ∧
  (∀ (k0_h12 : k0_cond12 k0_t1 arg17_r0 arg18_r0 = 1#1), ∀ a, (k0_off37 arg16_r0) a + S1x256x2048.size a ≤ S6x256x2048.size a) ∧
  (∀ (k0_h12 : k0_cond12 k0_t1 arg17_r0 arg18_r0 = 1#1), ∀ a, (k0_off38 arg17_r0 arg18_r0) a + S256x2048.size a ≤ S8192x8192.size a)
theorem k0_off27_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h9 : k0_cond9 k0_t1 arg17_r0 arg18_r0 = 1#1), ∀ a, (k0_off27 arg13_r0) a + S1.size a ≤ S6.size a := fun k0_t1 arg13_r0 arg14_r0 arg15_r0 arg16_r0 arg17_r0 arg18_r0 k0_hw1 k0_h9 => k0_hw1.1 k0_h9
theorem k0_off28_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h9 : k0_cond9 k0_t1 arg17_r0 arg18_r0 = 1#1), ∀ a, (k0_off28 arg13_r0) a + S1x256x2048.size a ≤ S6x256x2048.size a := fun k0_t1 arg13_r0 arg14_r0 arg15_r0 arg16_r0 arg17_r0 arg18_r0 k0_hw1 k0_h9 => k0_hw1.2.1 k0_h9
theorem k0_off29_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h9 : k0_cond9 k0_t1 arg17_r0 arg18_r0 = 1#1), ∀ a, (k0_off29 arg17_r0 arg18_r0) a + S256x2048.size a ≤ S8192x8192.size a := fun k0_t1 arg13_r0 arg14_r0 arg15_r0 arg16_r0 arg17_r0 arg18_r0 k0_hw1 k0_h9 => k0_hw1.2.2.1 k0_h9
theorem k0_off30_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h10 : k0_cond10 k0_t1 arg17_r0 arg18_r0 = 1#1), ∀ a, (k0_off30 arg15_r0) a + S1.size a ≤ S6.size a := fun k0_t1 arg13_r0 arg14_r0 arg15_r0 arg16_r0 arg17_r0 arg18_r0 k0_hw1 k0_h10 => k0_hw1.2.2.2.1 k0_h10
theorem k0_off31_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h10 : k0_cond10 k0_t1 arg17_r0 arg18_r0 = 1#1), ∀ a, (k0_off31 arg15_r0) a + S1x256x2048.size a ≤ S6x256x2048.size a := fun k0_t1 arg13_r0 arg14_r0 arg15_r0 arg16_r0 arg17_r0 arg18_r0 k0_hw1 k0_h10 => k0_hw1.2.2.2.2.1 k0_h10
theorem k0_off32_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h10 : k0_cond10 k0_t1 arg17_r0 arg18_r0 = 1#1), ∀ a, (k0_off32 arg17_r0 arg18_r0) a + S256x2048.size a ≤ S8192x8192.size a := fun k0_t1 arg13_r0 arg14_r0 arg15_r0 arg16_r0 arg17_r0 arg18_r0 k0_hw1 k0_h10 => k0_hw1.2.2.2.2.2.1 k0_h10
theorem k0_off33_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h11 : k0_cond11 k0_t1 arg17_r0 arg18_r0 = 1#1), ∀ a, (k0_off33 arg14_r0) a + S1.size a ≤ S6.size a := fun k0_t1 arg13_r0 arg14_r0 arg15_r0 arg16_r0 arg17_r0 arg18_r0 k0_hw1 k0_h11 => k0_hw1.2.2.2.2.2.2.1 k0_h11
theorem k0_off34_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h11 : k0_cond11 k0_t1 arg17_r0 arg18_r0 = 1#1), ∀ a, (k0_off34 arg14_r0) a + S1x256x2048.size a ≤ S6x256x2048.size a := fun k0_t1 arg13_r0 arg14_r0 arg15_r0 arg16_r0 arg17_r0 arg18_r0 k0_hw1 k0_h11 => k0_hw1.2.2.2.2.2.2.2.1 k0_h11
theorem k0_off35_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h11 : k0_cond11 k0_t1 arg17_r0 arg18_r0 = 1#1), ∀ a, (k0_off35 arg17_r0 arg18_r0) a + S256x2048.size a ≤ S8192x8192.size a := fun k0_t1 arg13_r0 arg14_r0 arg15_r0 arg16_r0 arg17_r0 arg18_r0 k0_hw1 k0_h11 => k0_hw1.2.2.2.2.2.2.2.2.1 k0_h11
theorem k0_off36_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h12 : k0_cond12 k0_t1 arg17_r0 arg18_r0 = 1#1), ∀ a, (k0_off36 arg16_r0) a + S1.size a ≤ S6.size a := fun k0_t1 arg13_r0 arg14_r0 arg15_r0 arg16_r0 arg17_r0 arg18_r0 k0_hw1 k0_h12 => k0_hw1.2.2.2.2.2.2.2.2.2.1 k0_h12
theorem k0_off37_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h12 : k0_cond12 k0_t1 arg17_r0 arg18_r0 = 1#1), ∀ a, (k0_off37 arg16_r0) a + S1x256x2048.size a ≤ S6x256x2048.size a := fun k0_t1 arg13_r0 arg14_r0 arg15_r0 arg16_r0 arg17_r0 arg18_r0 k0_hw1 k0_h12 => k0_hw1.2.2.2.2.2.2.2.2.2.2.1 k0_h12
theorem k0_off38_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (k0_hw1 : k0_chk1 k0_t1 arg13_r0 arg14_r0 arg15_r0 arg16_r0 arg17_r0 arg18_r0), ∀ (k0_h12 : k0_cond12 k0_t1 arg17_r0 arg18_r0 = 1#1), ∀ a, (k0_off38 arg17_r0 arg18_r0) a + S256x2048.size a ≤ S8192x8192.size a := fun k0_t1 arg13_r0 arg14_r0 arg15_r0 arg16_r0 arg17_r0 arg18_r0 k0_hw1 k0_h12 => k0_hw1.2.2.2.2.2.2.2.2.2.2.2 k0_h12

def k0_off39 (v353_r0 : BitVec 32) : Fin 2 → Nat :=
  let c0_i32_276_r0 : BitVec 32 := 0#32
  let v355_r0 : BitVec 1 := Scalar.cmpi .sgt v353_r0 c0_i32_276_r0
  let v356_r0 : BitVec 32 := Scalar.extui v355_r0
  let c0_i32_277_r0 : BitVec 32 := 0#32
  let v357_r0 : BitVec 1 := Scalar.cmpi .slt v353_r0 c0_i32_277_r0
  let v358_r0 : BitVec 32 := Scalar.extui v357_r0
  let v359_r0 : BitVec 32 := Scalar.subi v356_r0 v358_r0
  let c4_i32_275_r0 : BitVec 32 := 4#32
  let c0_i32_278_r0 : BitVec 32 := 0#32
  let v360_r0 : BitVec 1 := Scalar.cmpi .sgt c4_i32_275_r0 c0_i32_278_r0
  let v361_r0 : BitVec 32 := Scalar.extui v360_r0
  let c0_i32_279_r0 : BitVec 32 := 0#32
  let v362_r0 : BitVec 1 := Scalar.cmpi .slt c4_i32_275_r0 c0_i32_279_r0
  let v363_r0 : BitVec 32 := Scalar.extui v362_r0
  let v364_r0 : BitVec 32 := Scalar.subi v361_r0 v363_r0
  let v365_r0 : BitVec 1 := Scalar.cmpi .ne v359_r0 v364_r0
  let v366_r0 : BitVec 32 := Scalar.remsi v353_r0 c4_i32_275_r0
  let c0_i32_280_r0 : BitVec 32 := 0#32
  let v367_r0 : BitVec 1 := Scalar.cmpi .ne v366_r0 c0_i32_280_r0
  let v368_r0 : BitVec 1 := Scalar.andi v365_r0 v367_r0
  let v354_r0 : BitVec 32 := Scalar.divsi v353_r0 c4_i32_275_r0
  let c1_i32_281_r0 : BitVec 32 := 1#32
  let v369_r0 : BitVec 32 := Scalar.subi v354_r0 c1_i32_281_r0
  let v370_r0 : BitVec 32 := Scalar.select v368_r0 v369_r0 v354_r0
  let c256_i32_r0 : BitVec 32 := 256#32
  let v384_r0 : BitVec 32 := Scalar.muli v370_r0 c256_i32_r0
  let v385_r0 : Index := Scalar.indexCast v384_r0
  let c0_290_r0 : Index := 0#32
  ![v385_r0.toNat, 0]

def k0_off40 (v353_r0 : BitVec 32) : Fin 2 → Nat :=
  let c4_i32_282_r0 : BitVec 32 := 4#32
  let c0_i32_283_r0 : BitVec 32 := 0#32
  let v371_r0 : BitVec 1 := Scalar.cmpi .eq c4_i32_282_r0 c0_i32_283_r0
  let c1_i32_284_r0 : BitVec 32 := 1#32
  let v372_r0 : BitVec 32 := Scalar.select v371_r0 c1_i32_284_r0 c4_i32_282_r0
  let v373_r0 : BitVec 32 := Scalar.remsi v353_r0 v372_r0
  let c0_i32_286_r0 : BitVec 32 := 0#32
  let v375_r0 : BitVec 1 := Scalar.cmpi .slt v373_r0 c0_i32_286_r0
  let c0_i32_287_r0 : BitVec 32 := 0#32
  let v376_r0 : BitVec 1 := Scalar.cmpi .slt v372_r0 c0_i32_287_r0
  let v377_r0 : BitVec 1 := Scalar.xori v375_r0 v376_r0
  let c0_i32_285_r0 : BitVec 32 := 0#32
  let v374_r0 : BitVec 1 := Scalar.cmpi .ne v373_r0 c0_i32_285_r0
  let v378_r0 : BitVec 1 := Scalar.andi v377_r0 v374_r0
  let v379_r0 : BitVec 32 := Scalar.addi v373_r0 v372_r0
  let v380_r0 : BitVec 32 := Scalar.select v378_r0 v379_r0 v373_r0
  let c2048_i32_r0 : BitVec 32 := 2048#32
  let v387_r0 : BitVec 32 := Scalar.muli v380_r0 c2048_i32_r0
  let v388_r0 : Index := Scalar.indexCast v387_r0
  let c0_291_r0 : Index := 0#32
  ![v388_r0.toNat, 0]

def k0_chk2 (v353_r0 : BitVec 32) : Prop :=
  (∀ a, (k0_off39 v353_r0) a + S256x64.size a ≤ S8192x64.size a) ∧
  (∀ a, (k0_off40 v353_r0) a + S2048x64.size a ≤ S8192x64.size a)
theorem k0_off39_inb : ∀ (v353_r0 : BitVec 32) (k0_hw2 : k0_chk2 v353_r0), ∀ a, (k0_off39 v353_r0) a + S256x64.size a ≤ S8192x64.size a := fun v353_r0 k0_hw2 => k0_hw2.1
theorem k0_off40_inb : ∀ (v353_r0 : BitVec 32) (k0_hw2 : k0_chk2 v353_r0), ∀ a, (k0_off40 v353_r0) a + S2048x64.size a ≤ S8192x64.size a := fun v353_r0 k0_hw2 => k0_hw2.2

def k0_off41 (arg14_r0 : BitVec 32) : Fin 3 → Nat :=
  let c6_i32_272_r0 : BitVec 32 := 6#32
  let v351_r0 : BitVec 32 := Scalar.remui arg14_r0 c6_i32_272_r0
  let v393_r0 : Index := Scalar.indexCast v351_r0
  let c0_293_r0 : Index := 0#32
  let c0_294_r0 : Index := 0#32
  ![v393_r0.toNat, 0, 0]

def k0_chk3 (arg14_r0 : BitVec 32) : Prop :=
  (∀ a, (k0_off41 arg14_r0) a + S1x256x2048.size a ≤ S6x256x2048.size a)
theorem k0_off41_inb : ∀ (arg14_r0 : BitVec 32) (k0_hw3 : k0_chk3 arg14_r0), ∀ a, (k0_off41 arg14_r0) a + S1x256x2048.size a ≤ S6x256x2048.size a := fun arg14_r0 k0_hw3 => k0_hw3

def k0_off42 (arg16_r0 : BitVec 32) : Fin 3 → Nat :=
  let c6_i32_273_r0 : BitVec 32 := 6#32
  let v352_r0 : BitVec 32 := Scalar.remui arg16_r0 c6_i32_273_r0
  let v404_r0 : Index := Scalar.indexCast v352_r0
  let c0_298_r0 : Index := 0#32
  let c0_299_r0 : Index := 0#32
  ![v404_r0.toNat, 0, 0]

def k0_chk4 (arg16_r0 : BitVec 32) : Prop :=
  (∀ a, (k0_off42 arg16_r0) a + S1x256x2048.size a ≤ S6x256x2048.size a)
theorem k0_off42_inb : ∀ (arg16_r0 : BitVec 32) (k0_hw4 : k0_chk4 arg16_r0), ∀ a, (k0_off42 arg16_r0) a + S1x256x2048.size a ≤ S6x256x2048.size a := fun arg16_r0 k0_hw4 => k0_hw4

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "two_log2e" => some ((2 * (Real.log 2)⁻¹ : ℝ) : EReal)
  | _ => none
-- ==== ReferenceIdeal.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S1x8192 : Shape := ⟨2, ![1, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S8192x8192, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S_, .f32⟩
  | .hbm, ⟨12, _⟩ => ⟨S8192x64, .f32⟩
  | .hbm, ⟨13, _⟩ => ⟨S8192x64, .i1⟩
  | .hbm, ⟨14, _⟩ => ⟨S_, .f32⟩
  | .hbm, ⟨15, _⟩ => ⟨S8192x64, .f32⟩
  | .hbm, ⟨16, _⟩ => ⟨S8192x64, .i1⟩
  | .hbm, ⟨17, _⟩ => ⟨S_, .f32⟩
  | .hbm, ⟨18, _⟩ => ⟨S_, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S64x64, .f32⟩
  | .hbm, ⟨27, _⟩ => ⟨S8192x64, .f32⟩
  | .hbm, ⟨28, _⟩ => ⟨S1x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S8192x64, .f32⟩
  | .hbm, ⟨33, _⟩ => ⟨S8192x64, .i1⟩
  | .hbm, ⟨34, _⟩ => ⟨S_, .f32⟩
  | .hbm, ⟨35, _⟩ => ⟨S8192x64, .f32⟩
  | .hbm, ⟨36, _⟩ => ⟨S8192x64, .i1⟩
  | .hbm, ⟨37, _⟩ => ⟨S_, .f32⟩
  | .hbm, ⟨38, _⟩ => ⟨S_, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S_, .f32⟩
  | .hbm, ⟨43, _⟩ => ⟨S8192x64, .f32⟩
  | .hbm, ⟨44, _⟩ => ⟨S8192x64, .f32⟩
  | .hbm, ⟨45, _⟩ => ⟨S8192x64, .f32⟩
  | .hbm, ⟨46, _⟩ => ⟨S8192x64, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1, .f32⟩
  | .hbm, ⟨51, _⟩ => ⟨S8192x64, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1, .f32⟩
  | .hbm, ⟨56, _⟩ => ⟨S64x8192, .f32⟩
  | .hbm, ⟨57, _⟩ => ⟨S8192x8192, .f32⟩
  | .hbm, ⟨58, _⟩ => ⟨S1x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S_, .f32⟩
  | .hbm, ⟨69, _⟩ => ⟨S8192x8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_v4 : Ref sig .tc := ⟨.hbm, 20, rfl⟩
abbrev main_call0_v5 : Ref sig .tc := ⟨.hbm, 21, rfl⟩
abbrev main_call0_cst_2 : Ref sig .tc := ⟨.hbm, 22, rfl⟩
abbrev main_call0_v6 : Ref sig .tc := ⟨.hbm, 23, rfl⟩
abbrev main_call0_v7 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_cst_0 : Ref sig .tc := ⟨.hbm, 34, rfl⟩
abbrev main_call1_v2 : Ref sig .tc := ⟨.hbm, 35, rfl⟩
abbrev main_call1_v3 : Ref sig .tc := ⟨.hbm, 36, rfl⟩
abbrev main_call1_cst_1 : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_v4 : Ref sig .tc := ⟨.hbm, 40, rfl⟩
abbrev main_call1_v5 : Ref sig .tc := ⟨.hbm, 41, rfl⟩
abbrev main_call1_cst_2 : Ref sig .tc := ⟨.hbm, 42, rfl⟩
abbrev main_call1_v6 : Ref sig .tc := ⟨.hbm, 43, rfl⟩
abbrev main_call1_v7 : Ref sig .tc := ⟨.hbm, 44, rfl⟩
abbrev main_v11 : Ref sig .tc := ⟨.hbm, 45, rfl⟩
abbrev main_call2_v0 : Ref sig .tc := ⟨.hbm, 46, rfl⟩
abbrev main_call2_cst : Ref sig .tc := ⟨.hbm, 47, rfl⟩
abbrev main_call2_v1 : Ref sig .tc := ⟨.hbm, 48, rfl⟩
abbrev main_call2_v2 : Ref sig .tc := ⟨.hbm, 49, rfl⟩
abbrev main_v12 : Ref sig .tc := ⟨.hbm, 50, rfl⟩
abbrev main_call3_v0 : Ref sig .tc := ⟨.hbm, 51, rfl⟩
abbrev main_call3_cst : Ref sig .tc := ⟨.hbm, 52, rfl⟩
abbrev main_call3_v1 : Ref sig .tc := ⟨.hbm, 53, rfl⟩
abbrev main_call3_v2 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_0 : Ref sig .tc := ⟨.hbm, 67, rfl⟩
abbrev main_v24 : Ref sig .tc := ⟨.hbm, 68, rfl⟩
abbrev main_v25 : Ref sig .tc := ⟨.hbm, 69, rfl⟩
abbrev main_cst_1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩

abbrev nD : Nat := 1
abbrev τ : Topo := Topo.v7x

variable {F : FTy → Type} [FloatOps F]
-- ==== Proof.RingStep.lean ====
/-
  One step of a transfer ring of six slots, five blocks ahead, over any number of blocks: what a trip of the pipelined loop
  takes out of the ring and what it has to give back. Stated over any role families, so that the two rings of the kernel
  (one for `pos`, one for `neg`) share it.
-/
module

public import Idealize.ShloMosaic.Lib.Ring
public import Idealize.ShloMosaic.Lib.Ring.AtN
public import Idealize.ShloMosaic.Lib.Tactic

@[expose] public section

noncomputable section

namespace Cert.Proof.RingStep

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

theorem univ6 : (Finset.univ : Finset (Fin 6)) = [0, 1, 2, 3, 4, 5].toFinset := by decide
theorem nodup6 : ([0, 1, 2, 3, 4, 5] : List (Fin 6)).Nodup := by decide

variable {M : Type _} [URA M] {NB : ℕ} [NeZero NB]
variable (home : Fin NB → sProp M) {C : Fin 6 → Type _} (cell : Fin 6 → sProp M) (slot : (s : Fin 6) → C s → sProp M)
  (flight : (s : Fin 6) → Fin NB → C s → sProp M)

/-- Before a trip `t` with a block `t + 5` still to start: that block's source, the free slot it goes into and the flight
    of block `t` come out; block `t` home again, block `t + 5` in flight and slot `t` free give the ring before `t + 1`. -/
theorem at_issue (t : ℕ) (hB : t + 5 < NB) :
    At 5 cell slot home flight t
      ⊢ iprop(home (bk NB (t + 5)) ∗ free cell slot (sl 6 (t + 5)) ∗ inflight flight (sl 6 t) (bk NB t)
          ∗ ((home (bk NB t) ∗ inflight flight (sl 6 (t + 5)) (bk NB (t + 5)) ∗ free cell slot (sl 6 t))
              -∗ At 5 cell slot home flight (t + 1))) := by
  rw [At_here_n home 5 cell slot flight _ univ6 nodup6 t hB, At_next_n home 5 cell slot flight _ univ6 nodup6 rfl t hB]
  have e0 := slotAt_eq_inflight 5 cell slot flight (t + 1) 0 (t + 1) rfl ⟨by decide, by omega⟩
  have e1 := slotAt_eq_inflight 5 cell slot flight (t + 1) 1 (t + 2) rfl ⟨by decide, by omega⟩
  have e2 := slotAt_eq_inflight 5 cell slot flight (t + 1) 2 (t + 3) rfl ⟨by decide, by omega⟩
  have e3 := slotAt_eq_inflight 5 cell slot flight (t + 1) 3 (t + 4) rfl ⟨by decide, by omega⟩
  have e4 := slotAt_eq_inflight 5 cell slot flight (t + 1) 4 (t + 5) rfl ⟨by decide, by omega⟩
  show iprop((home (bk NB (t + 5)) ∗ bigSep ((homeSet 5 t).erase (bk NB (t + 5))) home)
      ∗ inflight flight (sl 6 t) (bk NB t) ∗ inflight flight (sl 6 (t + 1)) (bk NB (t + 1))
      ∗ inflight flight (sl 6 (t + 2)) (bk NB (t + 2)) ∗ inflight flight (sl 6 (t + 3)) (bk NB (t + 3))
      ∗ inflight flight (sl 6 (t + 4)) (bk NB (t + 4)) ∗ free cell slot (sl 6 (t + 5)))
    ⊢ iprop(home (bk NB (t + 5)) ∗ free cell slot (sl 6 (t + 5)) ∗ inflight flight (sl 6 t) (bk NB t)
      ∗ ((home (bk NB t) ∗ inflight flight (sl 6 (t + 5)) (bk NB (t + 5)) ∗ free cell slot (sl 6 t))
          -∗ ((home (bk NB t) ∗ bigSep ((homeSet 5 t).erase (bk NB (t + 5))) home)
            ∗ slotAt 5 cell slot flight (t + 1) 0 ∗ slotAt 5 cell slot flight (t + 1) 1 ∗ slotAt 5 cell slot flight (t + 1) 2
            ∗ slotAt 5 cell slot flight (t + 1) 3 ∗ slotAt 5 cell slot flight (t + 1) 4 ∗ free cell slot (sl 6 t))))
  rw [e0, e1, e2, e3, e4]
  iintro ⟨⟨Hh, HR⟩, H0, H1, H2, H3, H4, HF⟩
  isplitl [Hh]; · iexact Hh
  isplitl [HF]; · iexact HF
  isplitl [H0]; · iexact H0
  iintro ⟨Hh, H5, HF⟩
  isplitl [Hh HR]
  · isplitl [Hh]; · iexact Hh
    iexact HR
  isplitl [H1]; · iexact H1
  isplitl [H2]; · iexact H2
  isplitl [H3]; · iexact H3
  isplitl [H4]; · iexact H4
  isplitl [H5]; · iexact H5
  iexact HF

/-- Before one of the last five trips nothing goes out: the flight of block `t` comes out, block `t` home again and
    slot `t` free give the ring before `t + 1`. -/
theorem at_tail (t : ℕ) (hB : NB ≤ t + 5) (ht : t < NB) :
    At 5 cell slot home flight t
      ⊢ iprop(inflight flight (sl 6 t) (bk NB t)
          ∗ ((home (bk NB t) ∗ free cell slot (sl 6 t)) -∗ At 5 cell slot home flight (t + 1))) := by
  rw [At_here_tail_n home 5 cell slot flight _ univ6 nodup6 rfl (by decide) t ht,
    At_next_tail_n home 5 cell slot flight _ univ6 nodup6 rfl t hB ht]
  have e0 := slotAt_tail_role_n 5 cell slot flight t 0 1 rfl (by decide)
  have e1 := slotAt_tail_role_n 5 cell slot flight t 1 2 rfl (by decide)
  have e2 := slotAt_tail_role_n 5 cell slot flight t 2 3 rfl (by decide)
  have e3 := slotAt_tail_role_n 5 cell slot flight t 3 4 rfl (by decide)
  show iprop(bigSep (homeSet 5 t) home
      ∗ inflight flight (sl 6 t) (bk NB t) ∗ slotAt 5 cell slot flight t 1 ∗ slotAt 5 cell slot flight t 2
      ∗ slotAt 5 cell slot flight t 3 ∗ slotAt 5 cell slot flight t 4 ∗ free cell slot (sl 6 (t + 5)))
    ⊢ iprop(inflight flight (sl 6 t) (bk NB t)
      ∗ ((home (bk NB t) ∗ free cell slot (sl 6 t))
          -∗ ((home (bk NB t) ∗ bigSep (homeSet 5 t) home)
            ∗ slotAt 5 cell slot flight (t + 1) 0 ∗ slotAt 5 cell slot flight (t + 1) 1 ∗ slotAt 5 cell slot flight (t + 1) 2
            ∗ slotAt 5 cell slot flight (t + 1) 3 ∗ free cell slot (sl 6 (t + 5)) ∗ free cell slot (sl 6 t))))
  rw [e0, e1, e2, e3]
  iintro ⟨HR, H0, H1, H2, H3, H4, HF⟩
  isplitl [H0]; · iexact H0
  iintro ⟨Hh, HF'⟩
  isplitl [Hh HR]
  · isplitl [Hh]; · iexact Hh
    iexact HR
  isplitl [H1]; · iexact H1
  isplitl [H2]; · iexact H2
  isplitl [H3]; · iexact H3
  isplitl [H4]; · iexact H4
  isplitl [HF]; · iexact HF
  iexact HF'

/-- The prologue: with every block home and every slot free, blocks `0 … 4` and slots `0 … 4` come out, and their five
    flights give the ring before trip 0. -/
theorem at_start (h : 6 ≤ NB) :
    At₀ cell slot home
      ⊢ iprop((home (bk NB 0) ∗ home (bk NB 1) ∗ home (bk NB 2) ∗ home (bk NB 3) ∗ home (bk NB 4))
          ∗ (free cell slot 0 ∗ free cell slot 1 ∗ free cell slot 2 ∗ free cell slot 3 ∗ free cell slot 4)
          ∗ ((inflight flight 0 (bk NB 0) ∗ inflight flight 1 (bk NB 1) ∗ inflight flight 2 (bk NB 2)
                ∗ inflight flight 3 (bk NB 3) ∗ inflight flight 4 (bk NB 4))
              -∗ At 5 cell slot home flight 0)) := by
  rw [At₀_eq_n home 5 cell slot _ univ6 nodup6 rfl h, At_here_n home 5 cell slot flight _ univ6 nodup6 0 (by omega)]
  show iprop((home (bk NB 0) ∗ home (bk NB 1) ∗ home (bk NB 2) ∗ home (bk NB 3) ∗ home (bk NB 4) ∗ home (bk NB 5)
        ∗ bigSep ((homeSet 5 0).erase (bk NB 5)) home)
      ∗ free cell slot 0 ∗ free cell slot 1 ∗ free cell slot 2 ∗ free cell slot 3 ∗ free cell slot 4 ∗ free cell slot 5)
    ⊢ iprop((home (bk NB 0) ∗ home (bk NB 1) ∗ home (bk NB 2) ∗ home (bk NB 3) ∗ home (bk NB 4))
      ∗ (free cell slot 0 ∗ free cell slot 1 ∗ free cell slot 2 ∗ free cell slot 3 ∗ free cell slot 4)
      ∗ ((inflight flight 0 (bk NB 0) ∗ inflight flight 1 (bk NB 1) ∗ inflight flight 2 (bk NB 2)
            ∗ inflight flight 3 (bk NB 3) ∗ inflight flight 4 (bk NB 4))
          -∗ ((home (bk NB 5) ∗ bigSep ((homeSet 5 0).erase (bk NB 5)) home)
            ∗ inflight flight 0 (bk NB 0) ∗ inflight flight 1 (bk NB 1) ∗ inflight flight 2 (bk NB 2)
            ∗ inflight flight 3 (bk NB 3) ∗ inflight flight 4 (bk NB 4) ∗ free cell slot 5)))
  iintro ⟨⟨Hh0, Hh1, Hh2, Hh3, Hh4, Hh5, HR⟩, HF0, HF1, HF2, HF3, HF4, HF5⟩
  isplitl [Hh0 Hh1 Hh2 Hh3 Hh4]
  · isplitl [Hh0]; · iexact Hh0
    isplitl [Hh1]; · iexact Hh1
    isplitl [Hh2]; · iexact Hh2
    isplitl [Hh3]; · iexact Hh3
    iexact Hh4
  isplitl [HF0 HF1 HF2 HF3 HF4]
  · isplitl [HF0]; · iexact HF0
    isplitl [HF1]; · iexact HF1
    isplitl [HF2]; · iexact HF2
    isplitl [HF3]; · iexact HF3
    iexact HF4
  iintro ⟨H0, H1, H2, H3, H4⟩
  isplitl [Hh5 HR]
  · isplitl [Hh5]; · iexact Hh5
    iexact HR
  isplitl [H0]; · iexact H0
  isplitl [H1]; · iexact H1
  isplitl [H2]; · iexact H2
  isplitl [H3]; · iexact H3
  isplitl [H4]; · iexact H4
  iexact HF5

/-- Past the last block every block is home and every slot is free. -/
theorem at_rest (t : ℕ) (h : NB ≤ t) : At 5 cell slot home flight t ⊢ At₀ cell slot home := by
  rw [At_past_eq_free home 5 cell slot flight t h]
  exact .rfl

end Cert.Proof.RingStep

end
-- ==== Proof.K.Frame.lean ====
/-
  The frame: from any memory every execution ends, the arguments are as they were, and every semaphore is at zero.
-/
module

public import proofs.«01_k».proof.Proof.K.Launch

@[expose] public section

noncomputable section

namespace Cert.Proof.K

open Cert.Kernel Cert.Kernel.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- A buffer that is no window's array, other than the result, ends as the region found it. -/
theorem tail_keep (c : Dev nD) (b : Ref sig .tc) (hb : b ≠ main_v0) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

/-- What a run that ends as the launch says leaves in the arguments. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans (V_main_arg0 m c)),
    ((h c).1 1).trans (((dats m 0 c).arrAt_in 1 rfl _).trans (V_main_arg1 m c)),
    ((h c).2 main_arg2 (Pipeline.mem_restRefs_of main_arg2 (by decide) (by decide))).trans
      ((tail_keep m c main_arg2 (by decide) (by decide)).trans (V_main_arg2 m c)),
    ((h c).2 main_arg3 (Pipeline.mem_restRefs_of main_arg3 (by decide) (by decide))).trans
      ((tail_keep m c main_arg3 (by decide) (by decide)).trans (V_main_arg3 m c)),
    ((h c).1 2).trans (((dats m 0 c).arrAt_in 2 rfl _).trans (V_main_arg4 m c)),
    ((h c).2 main_arg5 (Pipeline.mem_restRefs_of main_arg5 (by decide) (by decide))).trans
      ((tail_keep m c main_arg5 (by decide) (by decide)).trans (V_main_arg5 m c))⟩

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_kept m r h.1, h.2⟩) (run_main m ρ)

end Cert.Proof.K

end
-- ==== Proof.KI.Names.lean ====
/-
  Canonical names for what the pipelined loop touches: block `b` of `pos` and of `neg`, slot `s` of the two staging rings,
  the slot's semaphore, and the six words the loop carries before trip `k`. The words the body computes are equal to
  these names at each of the 128 trips, so one symbolic trip covers them all.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.RingStep
public import Idealize.ShloMosaic.Lib.Pipeline.KitQuiescent
public import Idealize.ShloMosaic.Lib.Affine

@[expose] public section

noncomputable section

namespace Cert.Proof.KI

open Cert.KernelIdeal Cert.KernelIdeal.Gen
open Idealize.ShloMosaic Idealize.ShloMosaic.TcCoe Idealize.ShloMosaic.Tactic

/-! ## Blocks, slots, semaphores -/

abbrev posM : Memref sig .tc .hbm S8192x8192 .f32 := Memref.whole main_arg2
abbrev negM : Memref sig .tc .hbm S8192x8192 .f32 := Memref.whole main_arg3
abbrev ringA : Memref sig .tc .vmem S6x256x2048 .f32 := Memref.whole cc0_scoped0
abbrev ringB : Memref sig .tc .vmem S6x256x2048 .f32 := Memref.whole cc0_scoped2

/-- Block `b` of the 32 by 4 blocks of a large array, row by row. -/
abbrev blkOff (b : Fin 128) : Fin 2 → Nat := ![(b.val / 4) * 256, (b.val % 4) * 2048]
theorem blkOff_inb (b : Fin 128) : ∀ a, blkOff b a + S256x2048.size a ≤ S8192x8192.size a := by
  have := b.isLt; intro a; fin_cases a
  · show b.val / 4 * 256 + 256 ≤ 8192; omega
  · show b.val % 4 * 2048 + 2048 ≤ 8192; omega
abbrev slotOff (s : Fin 6) : Fin 3 → Nat := ![s.val, 0, 0]
theorem slotOff_inb (s : Fin 6) : ∀ a, slotOff s a + S1x256x2048.size a ≤ S6x256x2048.size a := by
  have := s.isLt; intro a; fin_cases a
  · show s.val + 1 ≤ 6; omega
  · show 0 + 256 ≤ 256; omega
  · show 0 + 2048 ≤ 2048; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Block `b` of `pos`, and of `neg`. -/
def blkA (b : Fin 128) : Memref sig .tc .hbm S256x2048 .f32 :=
  posM.slice (Rect.unit (s := S8192x8192) (blkOff b) S256x2048.size (blkOff_inb b)) (fun _ => rfl)
def blkB (b : Fin 128) : Memref sig .tc .hbm S256x2048 .f32 :=
  negM.slice (Rect.unit (s := S8192x8192) (blkOff b) S256x2048.size (blkOff_inb b)) (fun _ => rfl)
/-- Slot `s` of the ring for `pos`, and of the ring for `neg`. -/
def slotA (s : Fin 6) : Memref sig .tc .vmem S256x2048 .f32 :=
  (ringA.slice (Rect.unit (s := S6x256x2048) (slotOff s) S1x256x2048.size (slotOff_inb s)) (fun _ => rfl)).squeeze S256x2048 squeezes_S1x256x2048_S256x2048
def slotB (s : Fin 6) : Memref sig .tc .vmem S256x2048 .f32 :=
  (ringB.slice (Rect.unit (s := S6x256x2048) (slotOff s) S1x256x2048.size (slotOff_inb s)) (fun _ => rfl)).squeeze S256x2048 squeezes_S1x256x2048_S256x2048
/-- Slot `s`'s DMA semaphore in each ring. -/
def semA (s : Fin 6) : DmaSems sig S_ := (cc0_scoped1.slice (Rect.unit (s := S6) (semOff s) S1.size (semOff_inb s))).squeeze S_ squeezes_S1_S_
def semB (s : Fin 6) : DmaSems sig S_ := (cc0_scoped3.slice (Rect.unit (s := S6) (semOff s) S1.size (semOff_inb s))).squeeze S_ squeezes_S1_S_

/-! ## The carried words before trip `k` -/

/-- The count of blocks started, of blocks waited, and the block coordinates. -/
def wIn (k : ℕ) : BitVec 32 := BitVec.ofNat 32 (min (k + 5) 128)
def wAt (k : ℕ) : BitVec 32 := BitVec.ofNat 32 k
def wRow (k : ℕ) : BitVec 32 := BitVec.ofNat 32 (k / 4 % 32)
def wCol (k : ℕ) : BitVec 32 := BitVec.ofNat 32 (k % 4)

theorem trips_eq : k0_t1_loop.trips = 128 := by decide

theorem cond9_pos : ∀ k : Fin k0_t1_loop.trips, k.val + 5 < 128 → k0_cond9 k (wRow k) (wCol k) = 1#1 := by decide +kernel
theorem cond9_neg : ∀ k : Fin k0_t1_loop.trips, 128 ≤ k.val + 5 → ¬k0_cond9 k (wRow k) (wCol k) = 1#1 := by decide +kernel
theorem cond10_pos : ∀ k : Fin k0_t1_loop.trips, k.val + 5 < 128 → k0_cond10 k (wRow k) (wCol k) = 1#1 := by decide +kernel
theorem cond10_neg : ∀ k : Fin k0_t1_loop.trips, 128 ≤ k.val + 5 → ¬k0_cond10 k (wRow k) (wCol k) = 1#1 := by decide +kernel
theorem cond11_pos : ∀ k : Fin k0_t1_loop.trips, k0_cond11 k (wRow k) (wCol k) = 1#1 := by decide +kernel
theorem cond12_pos : ∀ k : Fin k0_t1_loop.trips, k0_cond12 k (wRow k) (wCol k) = 1#1 := by decide +kernel
theorem chk1_at : ∀ k : Fin k0_t1_loop.trips, k0_chk1 k (wIn k) (wAt k) (wIn k) (wAt k) (wRow k) (wCol k) := by decide +kernel
theorem chk2_at : ∀ k : Fin k0_t1_loop.trips, k0_chk2 (wAt k) := by decide +kernel
theorem chk3_at : ∀ k : Fin k0_t1_loop.trips, k0_chk3 (wAt k) := by decide +kernel
theorem chk4_at : ∀ k : Fin k0_t1_loop.trips, k0_chk4 (wAt k) := by decide +kernel

theorem off27_eq : ∀ k : Fin k0_t1_loop.trips, k.val + 5 < 128 → k0_off27 (wIn k) = semOff (Ring.sl 6 (k + 5)) := by decide +kernel
theorem off28_eq : ∀ k : Fin k0_t1_loop.trips, k.val + 5 < 128 → k0_off28 (wIn k) = slotOff (Ring.sl 6 (k + 5)) := by decide +kernel
theorem off29_eq : ∀ k : Fin k0_t1_loop.trips, k.val + 5 < 128 → k0_off29 (wRow k) (wCol k) = blkOff (Ring.bk 128 (k + 5)) := by decide +kernel
theorem off30_eq : ∀ k : Fin k0_t1_loop.trips, k.val + 5 < 128 → k0_off30 (wIn k) = semOff (Ring.sl 6 (k + 5)) := by decide +kernel
theorem off31_eq : ∀ k : Fin k0_t1_loop.trips, k.val + 5 < 128 → k0_off31 (wIn k) = slotOff (Ring.sl 6 (k + 5)) := by decide +kernel
theorem off32_eq : ∀ k : Fin k0_t1_loop.trips, k.val + 5 < 128 → k0_off32 (wRow k) (wCol k) = blkOff (Ring.bk 128 (k + 5)) := by decide +kernel
theorem off33_eq : ∀ k : Fin k0_t1_loop.trips, k0_off33 (wAt k) = semOff (Ring.sl 6 k) := by decide +kernel
theorem off34_eq : ∀ k : Fin k0_t1_loop.trips, k0_off34 (wAt k) = slotOff (Ring.sl 6 k) := by decide +kernel
theorem off35_eq : ∀ k : Fin k0_t1_loop.trips, k0_off35 (wRow k) (wCol k) = blkOff (Ring.bk 128 k) := by decide +kernel
theorem off36_eq : ∀ k : Fin k0_t1_loop.trips, k0_off36 (wAt k) = semOff (Ring.sl 6 k) := by decide +kernel
theorem off37_eq : ∀ k : Fin k0_t1_loop.trips, k0_off37 (wAt k) = slotOff (Ring.sl 6 k) := by decide +kernel
theorem off38_eq : ∀ k : Fin k0_t1_loop.trips, k0_off38 (wRow k) (wCol k) = blkOff (Ring.bk 128 k) := by decide +kernel
theorem off39_eq : ∀ k : Fin k0_t1_loop.trips, k0_off39 (wAt k) = ![k.val / 4 * 256, 0] := by decide +kernel
theorem off40_eq : ∀ k : Fin k0_t1_loop.trips, k0_off40 (wAt k) = ![k.val % 4 * 2048, 0] := by decide +kernel
theorem off41_eq : ∀ k : Fin k0_t1_loop.trips, k0_off41 (wAt k) = slotOff (Ring.sl 6 k) := by decide +kernel
theorem off42_eq : ∀ k : Fin k0_t1_loop.trips, k0_off42 (wAt k) = slotOff (Ring.sl 6 k) := by decide +kernel

instance (s : Fin 6) : ClosedOff (slotOff s) := ⟨slotOff s, rfl⟩
instance (b : Fin 128) : ClosedOff (blkOff b) := ⟨blkOff b, rfl⟩
instance (k : Fin k0_t1_loop.trips) : ClosedOff (k0_off41 (wAt k)) := ⟨slotOff (Ring.sl 6 k), off41_eq k⟩
instance (k : Fin k0_t1_loop.trips) : ClosedOff (k0_off42 (wAt k)) := ⟨slotOff (Ring.sl 6 k), off42_eq k⟩

/-! ## The body's slices are these -/

theorem semA_congr {off : Fin 1 → Nat} {s : Fin 6} (e : off = semOff s) (hh) :
    (cc0_scoped1.slice (Rect.unit (s := S6) off S1.size hh)).squeeze S_ squeezes_S1_S_ = semA s :=
  congrArg (fun A : DmaSems sig S1 => A.squeeze S_ squeezes_S1_S_) (SemArray.slice_unit_congr _ e _ _)
theorem semB_congr {off : Fin 1 → Nat} {s : Fin 6} (e : off = semOff s) (hh) :
    (cc0_scoped3.slice (Rect.unit (s := S6) off S1.size hh)).squeeze S_ squeezes_S1_S_ = semB s :=
  congrArg (fun A : DmaSems sig S1 => A.squeeze S_ squeezes_S1_S_) (SemArray.slice_unit_congr _ e _ _)
theorem slotA_congr {off : Fin 3 → Nat} {s : Fin 6} (e : off = slotOff s) (hh hs) :
    (ringA.slice (Rect.unit (s := S6x256x2048) off S1x256x2048.size hh) hs).squeeze S256x2048 squeezes_S1x256x2048_S256x2048 = slotA s :=
  congrArg (fun M : Memref sig .tc .vmem S1x256x2048 .f32 => M.squeeze S256x2048 squeezes_S1x256x2048_S256x2048) (Memref.slice_unit_congr _ e _ _ _ _)
theorem slotB_congr {off : Fin 3 → Nat} {s : Fin 6} (e : off = slotOff s) (hh hs) :
    (ringB.slice (Rect.unit (s := S6x256x2048) off S1x256x2048.size hh) hs).squeeze S256x2048 squeezes_S1x256x2048_S256x2048 = slotB s :=
  congrArg (fun M : Memref sig .tc .vmem S1x256x2048 .f32 => M.squeeze S256x2048 squeezes_S1x256x2048_S256x2048) (Memref.slice_unit_congr _ e _ _ _ _)
theorem blkA_congr {off : Fin 2 → Nat} {b : Fin 128} (e : off = blkOff b) (hh hs) :
    posM.slice (Rect.unit (s := S8192x8192) off S256x2048.size hh) hs = blkA b := by subst e; rfl
theorem blkB_congr {off : Fin 2 → Nat} {b : Fin 128} (e : off = blkOff b) (hh hs) :
    negM.slice (Rect.unit (s := S8192x8192) off S256x2048.size hh) hs = blkB b := by subst e; rfl

/-- The issue of trip `k`, into slot `k + 5`. -/
@[sl_canon] theorem cSemAI (k : Fin k0_t1_loop.trips) (hk : k.val + 5 < 128) (hh) :
    (cc0_scoped1.slice (Rect.unit (s := S6) (k0_off27 (wIn k)) S1.size hh)).squeeze S_ squeezes_S1_S_ = semA (Ring.sl 6 (k.val + 5)) := semA_congr (off27_eq k hk) _
@[sl_canon] theorem cSlotAI (k : Fin k0_t1_loop.trips) (hk : k.val + 5 < 128) (hh hs) :
    (ringA.slice (Rect.unit (s := S6x256x2048) (k0_off28 (wIn k)) S1x256x2048.size hh) hs).squeeze S256x2048 squeezes_S1x256x2048_S256x2048 = slotA (Ring.sl 6 (k.val + 5)) := slotA_congr (off28_eq k hk) _ _
@[sl_canon] theorem cBlkAI (k : Fin k0_t1_loop.trips) (hk : k.val + 5 < 128) (hh hs) :
    posM.slice (Rect.unit (s := S8192x8192) (k0_off29 (wRow k) (wCol k)) S256x2048.size hh) hs = blkA (Ring.bk 128 (k.val + 5)) := blkA_congr (off29_eq k hk) _ _
@[sl_canon] theorem cSemBI (k : Fin k0_t1_loop.trips) (hk : k.val + 5 < 128) (hh) :
    (cc0_scoped3.slice (Rect.unit (s := S6) (k0_off30 (wIn k)) S1.size hh)).squeeze S_ squeezes_S1_S_ = semB (Ring.sl 6 (k.val + 5)) := semB_congr (off30_eq k hk) _
@[sl_canon] theorem cSlotBI (k : Fin k0_t1_loop.trips) (hk : k.val + 5 < 128) (hh hs) :
    (ringB.slice (Rect.unit (s := S6x256x2048) (k0_off31 (wIn k)) S1x256x2048.size hh) hs).squeeze S256x2048 squeezes_S1x256x2048_S256x2048 = slotB (Ring.sl 6 (k.val + 5)) := slotB_congr (off31_eq k hk) _ _
@[sl_canon] theorem cBlkBI (k : Fin k0_t1_loop.trips) (hk : k.val + 5 < 128) (hh hs) :
    negM.slice (Rect.unit (s := S8192x8192) (k0_off32 (wRow k) (wCol k)) S256x2048.size hh) hs = blkB (Ring.bk 128 (k.val + 5)) := blkB_congr (off32_eq k hk) _ _
/-- The wait of trip `k`, in slot `k`. -/
@[sl_canon] theorem cSemAW (k : Fin k0_t1_loop.trips) (hh) :
    (cc0_scoped1.slice (Rect.unit (s := S6) (k0_off33 (wAt k)) S1.size hh)).squeeze S_ squeezes_S1_S_ = semA (Ring.sl 6 k.val) := semA_congr (off33_eq k) _
@[sl_canon] theorem cSlotAW (k : Fin k0_t1_loop.trips) (hh hs) :
    (ringA.slice (Rect.unit (s := S6x256x2048) (k0_off34 (wAt k)) S1x256x2048.size hh) hs).squeeze S256x2048 squeezes_S1x256x2048_S256x2048 = slotA (Ring.sl 6 k.val) := slotA_congr (off34_eq k) _ _
@[sl_canon] theorem cBlkAW (k : Fin k0_t1_loop.trips) (hh hs) :
    posM.slice (Rect.unit (s := S8192x8192) (k0_off35 (wRow k) (wCol k)) S256x2048.size hh) hs = blkA (Ring.bk 128 k.val) := blkA_congr (off35_eq k) _ _
@[sl_canon] theorem cSemBW (k : Fin k0_t1_loop.trips) (hh) :
    (cc0_scoped3.slice (Rect.unit (s := S6) (k0_off36 (wAt k)) S1.size hh)).squeeze S_ squeezes_S1_S_ = semB (Ring.sl 6 k.val) := semB_congr (off36_eq k) _
@[sl_canon] theorem cSlotBW (k : Fin k0_t1_loop.trips) (hh hs) :
    (ringB.slice (Rect.unit (s := S6x256x2048) (k0_off37 (wAt k)) S1x256x2048.size hh) hs).squeeze S256x2048 squeezes_S1x256x2048_S256x2048 = slotB (Ring.sl 6 k.val) := slotB_congr (off37_eq k) _ _
@[sl_canon] theorem cBlkBW (k : Fin k0_t1_loop.trips) (hh hs) :
    negM.slice (Rect.unit (s := S8192x8192) (k0_off38 (wRow k) (wCol k)) S256x2048.size hh) hs = blkB (Ring.bk 128 k.val) := blkB_congr (off38_eq k) _ _

/-! ### The prologue's five issues into each ring -/

@[sl_canon] theorem cSemA0 (hh) : (cc0_scoped1.slice (Rect.unit (s := S6) k0_off1 S1.size hh)).squeeze S_ squeezes_S1_S_ = semA 0 := semA_congr (by decide +kernel) _
@[sl_canon] theorem cSlotA0 (hh hs) : (ringA.slice (Rect.unit (s := S6x256x2048) k0_off2 S1x256x2048.size hh) hs).squeeze S256x2048 squeezes_S1x256x2048_S256x2048 = slotA 0 := slotA_congr (by decide +kernel) _ _
@[sl_canon] theorem cBlkA0 (hh hs) : posM.slice (Rect.unit (s := S8192x8192) ![0, 0] S256x2048.size hh) hs = blkA (Ring.bk 128 0) := blkA_congr (by decide +kernel) _ _
@[sl_canon] theorem cSemA1 (hh) : (cc0_scoped1.slice (Rect.unit (s := S6) k0_off3 S1.size hh)).squeeze S_ squeezes_S1_S_ = semA 1 := semA_congr (by decide +kernel) _
@[sl_canon] theorem cSlotA1 (hh hs) : (ringA.slice (Rect.unit (s := S6x256x2048) k0_off4 S1x256x2048.size hh) hs).squeeze S256x2048 squeezes_S1x256x2048_S256x2048 = slotA 1 := slotA_congr (by decide +kernel) _ _
@[sl_canon] theorem cBlkA1 (hh hs) : posM.slice (Rect.unit (s := S8192x8192) k0_off5 S256x2048.size hh) hs = blkA (Ring.bk 128 1) := blkA_congr (by decide +kernel) _ _
@[sl_canon] theorem cSemA2 (hh) : (cc0_scoped1.slice (Rect.unit (s := S6) k0_off9 S1.size hh)).squeeze S_ squeezes_S1_S_ = semA 2 := semA_congr (by decide +kernel) _
@[sl_canon] theorem cSlotA2 (hh hs) : (ringA.slice (Rect.unit (s := S6x256x2048) k0_off10 S1x256x2048.size hh) hs).squeeze S256x2048 squeezes_S1x256x2048_S256x2048 = slotA 2 := slotA_congr (by decide +kernel) _ _
@[sl_canon] theorem cBlkA2 (hh hs) : posM.slice (Rect.unit (s := S8192x8192) k0_off11 S256x2048.size hh) hs = blkA (Ring.bk 128 2) := blkA_congr (by decide +kernel) _ _
@[sl_canon] theorem cSemA3 (hh) : (cc0_scoped1.slice (Rect.unit (s := S6) k0_off15 S1.size hh)).squeeze S_ squeezes_S1_S_ = semA 3 := semA_congr (by decide +kernel) _
@[sl_canon] theorem cSlotA3 (hh hs) : (ringA.slice (Rect.unit (s := S6x256x2048) k0_off16 S1x256x2048.size hh) hs).squeeze S256x2048 squeezes_S1x256x2048_S256x2048 = slotA 3 := slotA_congr (by decide +kernel) _ _
@[sl_canon] theorem cBlkA3 (hh hs) : posM.slice (Rect.unit (s := S8192x8192) k0_off17 S256x2048.size hh) hs = blkA (Ring.bk 128 3) := blkA_congr (by decide +kernel) _ _
@[sl_canon] theorem cSemA4 (hh) : (cc0_scoped1.slice (Rect.unit (s := S6) k0_off21 S1.size hh)).squeeze S_ squeezes_S1_S_ = semA 4 := semA_congr (by decide +kernel) _
@[sl_canon] theorem cSlotA4 (hh hs) : (ringA.slice (Rect.unit (s := S6x256x2048) k0_off22 S1x256x2048.size hh) hs).squeeze S256x2048 squeezes_S1x256x2048_S256x2048 = slotA 4 := slotA_congr (by decide +kernel) _ _
@[sl_canon] theorem cBlkA4 (hh hs) : posM.slice (Rect.unit (s := S8192x8192) k0_off23 S256x2048.size hh) hs = blkA (Ring.bk 128 4) := blkA_congr (by decide +kernel) _ _
@[sl_canon] theorem cSemB0 (hh) : (cc0_scoped3.slice (Rect.unit (s := S6) k0_off1 S1.size hh)).squeeze S_ squeezes_S1_S_ = semB 0 := semB_congr (by decide +kernel) _
@[sl_canon] theorem cSlotB0 (hh hs) : (ringB.slice (Rect.unit (s := S6x256x2048) k0_off2 S1x256x2048.size hh) hs).squeeze S256x2048 squeezes_S1x256x2048_S256x2048 = slotB 0 := slotB_congr (by decide +kernel) _ _
@[sl_canon] theorem cBlkB0 (hh hs) : negM.slice (Rect.unit (s := S8192x8192) ![0, 0] S256x2048.size hh) hs = blkB (Ring.bk 128 0) := blkB_congr (by decide +kernel) _ _
@[sl_canon] theorem cSemB1 (hh) : (cc0_scoped3.slice (Rect.unit (s := S6) k0_off6 S1.size hh)).squeeze S_ squeezes_S1_S_ = semB 1 := semB_congr (by decide +kernel) _
@[sl_canon] theorem cSlotB1 (hh hs) : (ringB.slice (Rect.unit (s := S6x256x2048) k0_off7 S1x256x2048.size hh) hs).squeeze S256x2048 squeezes_S1x256x2048_S256x2048 = slotB 1 := slotB_congr (by decide +kernel) _ _
@[sl_canon] theorem cBlkB1 (hh hs) : negM.slice (Rect.unit (s := S8192x8192) k0_off8 S256x2048.size hh) hs = blkB (Ring.bk 128 1) := blkB_congr (by decide +kernel) _ _
@[sl_canon] theorem cSemB2 (hh) : (cc0_scoped3.slice (Rect.unit (s := S6) k0_off12 S1.size hh)).squeeze S_ squeezes_S1_S_ = semB 2 := semB_congr (by decide +kernel) _
@[sl_canon] theorem cSlotB2 (hh hs) : (ringB.slice (Rect.unit (s := S6x256x2048) k0_off13 S1x256x2048.size hh) hs).squeeze S256x2048 squeezes_S1x256x2048_S256x2048 = slotB 2 := slotB_congr (by decide +kernel) _ _
@[sl_canon] theorem cBlkB2 (hh hs) : negM.slice (Rect.unit (s := S8192x8192) k0_off14 S256x2048.size hh) hs = blkB (Ring.bk 128 2) := blkB_congr (by decide +kernel) _ _
@[sl_canon] theorem cSemB3 (hh) : (cc0_scoped3.slice (Rect.unit (s := S6) k0_off18 S1.size hh)).squeeze S_ squeezes_S1_S_ = semB 3 := semB_congr (by decide +kernel) _
@[sl_canon] theorem cSlotB3 (hh hs) : (ringB.slice (Rect.unit (s := S6x256x2048) k0_off19 S1x256x2048.size hh) hs).squeeze S256x2048 squeezes_S1x256x2048_S256x2048 = slotB 3 := slotB_congr (by decide +kernel) _ _
@[sl_canon] theorem cBlkB3 (hh hs) : negM.slice (Rect.unit (s := S8192x8192) k0_off20 S256x2048.size hh) hs = blkB (Ring.bk 128 3) := blkB_congr (by decide +kernel) _ _
@[sl_canon] theorem cSemB4 (hh) : (cc0_scoped3.slice (Rect.unit (s := S6) k0_off24 S1.size hh)).squeeze S_ squeezes_S1_S_ = semB 4 := semB_congr (by decide +kernel) _
@[sl_canon] theorem cSlotB4 (hh hs) : (ringB.slice (Rect.unit (s := S6x256x2048) k0_off25 S1x256x2048.size hh) hs).squeeze S256x2048 squeezes_S1x256x2048_S256x2048 = slotB 4 := slotB_congr (by decide +kernel) _ _
@[sl_canon] theorem cBlkB4 (hh hs) : negM.slice (Rect.unit (s := S8192x8192) k0_off26 S256x2048.size hh) hs = blkB (Ring.bk 128 4) := blkB_congr (by decide +kernel) _ _
theorem cond1_pos : k0_cond1 = 1#1 := by decide +kernel
theorem cond2_pos : k0_cond2 = 1#1 := by decide +kernel
theorem cond3_pos : k0_cond3 = 1#1 := by decide +kernel
theorem cond4_pos : k0_cond4 = 1#1 := by decide +kernel
theorem cond5_pos : k0_cond5 = 1#1 := by decide +kernel
theorem cond6_pos : k0_cond6 = 1#1 := by decide +kernel
theorem cond7_pos : k0_cond7 = 1#1 := by decide +kernel
theorem cond8_pos : k0_cond8 = 1#1 := by decide +kernel

end Cert.Proof.KI

end
-- ==== Proof.KI.State.lean ====
/-
  The resources of the pipelined loop: the two rings, the scratch buffers, the counter and the two running sums, and what
  they hold before trip `k`.
-/
module

public import proofs.«01_k».proof.Proof.KI.Names
public import Idealize.ShloMosaic.Lib.VecWindow
public import Idealize.ShloMosaic.Lib.Pipeline.Value

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The pipeline library's resources beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

section Pieces
variable (c : Dev nD) (XA : Buf (Elt F) (posM.view.loc (c : Thread nD τ))) (XB : Buf (Elt F) (negM.view.loc (c : Thread nD τ)))

abbrev cellPA (s : Fin 6) : sProp 𝕄 := semVal ((c : Thread nD τ), SemLoc.dma (semA s).sem) 0
abbrev cellPB (s : Fin 6) : sProp 𝕄 := semVal ((c : Thread nD τ), SemLoc.dma (semB s).sem) 0
abbrev slotPA (s : Fin 6) (f : Buf (Elt F) ((slotA s).view.loc (c : Thread nD τ))) : sProp 𝕄 :=
  (slotA s).view.loc (c : Thread nD τ) ↦[(slotA s).view.set]{fullShare} f
abbrev slotPB (s : Fin 6) (f : Buf (Elt F) ((slotB s).view.loc (c : Thread nD τ))) : sProp 𝕄 :=
  (slotB s).view.loc (c : Thread nD τ) ↦[(slotB s).view.set]{fullShare} f
/-- Block `b` at home: held on its elements at the array's contents. -/
abbrev homePA (b : Fin 128) : sProp 𝕄 := (blkA b).view.loc (c : Thread nD τ) ↦[(blkA b).view.set]{fullShare} XA
abbrev homePB (b : Fin 128) : sProp 𝕄 := (blkB b).view.loc (c : Thread nD τ) ↦[(blkB b).view.set]{fullShare} XB
/-- What block `b`'s transfer leaves in slot `s` over prior contents `f`. -/
abbrev landedA (s : Fin 6) (b : Fin 128) (f : Buf (Elt F) ((slotA s).view.loc (c : Thread nD τ))) : Buf (Elt F) ((slotA s).view.loc (c : Thread nD τ)) :=
  (slotA s).view.writes (Elt F) f [⟨Rect.whole S256x2048, ReadAs.same.apply ((blkA b).view.read (Elt F) XA)⟩]
abbrev landedB (s : Fin 6) (b : Fin 128) (f : Buf (Elt F) ((slotB s).view.loc (c : Thread nD τ))) : Buf (Elt F) ((slotB s).view.loc (c : Thread nD τ)) :=
  (slotB s).view.writes (Elt F) f [⟨Rect.whole S256x2048, ReadAs.same.apply ((blkB b).view.read (Elt F) XB)⟩]
/-- The units a block's transfer moves on its semaphore. -/
abbrev NN : ℕ := 65536
/-- Slot `s` in flight with block `b`, issued over `f`. -/
abbrev flightPA (s : Fin 6) (b : Fin 128) (f : Buf (Elt F) ((slotA s).view.loc (c : Thread nD τ))) : sProp 𝕄 :=
  Transfers.Flight countersEmb (c : Thread nD τ) (SemLoc.dma (semA s).sem) () NN iprop(slotPA c s (landedA c XA s b f) ∗ homePA c XA b)
abbrev flightPB (s : Fin 6) (b : Fin 128) (f : Buf (Elt F) ((slotB s).view.loc (c : Thread nD τ))) : sProp 𝕄 :=
  Transfers.Flight countersEmb (c : Thread nD τ) (SemLoc.dma (semB s).sem) () NN iprop(slotPB c s (landedB c XB s b f) ∗ homePB c XB b)

/-- The two rings before trip `k`. -/
abbrev atA (k : ℕ) : sProp 𝕄 := Ring.At 5 (cellPA c) (slotPA c) (homePA c XA) (flightPA c XA) k
abbrev atB (k : ℕ) : sProp 𝕄 := Ring.At 5 (cellPB c) (slotPB c) (homePB c XB) (flightPB c XB) k

end Pieces

/-! ## The scratch and the values -/

abbrev m7 : Memref sig .tc .vmem S8192x64 .bf16 := Memref.whole cc0_scratch0
abbrev m8 : Memref sig .tc .vmem S8192x64 .bf16 := Memref.whole cc0_scratch1
abbrev m9 : Memref sig .tc .smem S1 .i32 := Memref.whole cc0_scratch2
abbrev m10 : Memref sig .tc .smem S1 .f32 := Memref.whole cc0_scratch3
abbrev m11 : Memref sig .tc .smem S1 .f32 := Memref.whole cc0_scratch4

abbrev R1 : Rect S1 := Rect.unit (s := S1) ![0] S1.size inb_S1_S1_0
abbrev R11 : Rect S1x1 := Rect.unit (s := S1x1) ![0, 0] S1x1.size inb_S1x1_S1x1_0_0
abbrev RZ : Rect S8192x64 := Rect.unit (s := S8192x64) ![0, 0] S8192x64.size inb_S8192x64_S8192x64_0_0
abbrev RW : Rect S64x64 := Rect.unit (s := S64x64) ![0, 0] S64x64.size inb_S64x64_S64x64_0_0
abbrev RB : Rect S1x64 := Rect.unit (s := S1x64) ![0, 0] S1x64.size inb_S1x64_S1x64_0_0

section Ptr
variable (c : Dev nD) {sp : CoreSpace} {s : Shape} {e : EltTy}
/-- A whole memref held at contents `f`. -/
abbrev holds (m : Memref sig .tc sp s e) (f : Buf (Elt F) (m.view.loc (c : Thread nD τ))) : sProp 𝕄 :=
  m.view.loc (c : Thread nD τ) ↦[m.view.set]{fullShare} f
end Ptr

/-- The two projected and scaled row blocks the first trip computes. -/
def z1V (Wv : Vec F S64x64 .f32) (Bv : Vec F S1x64 .f32) (V1 : Vec F S8192x64 .f32) : Vec F S8192x64 .bf16 := k0_pay2 Wv Bv V1
def z2V (Wv : Vec F S64x64 .f32) (Bv : Vec F S1x64 .f32) (V2 : Vec F S8192x64 .f32) : Vec F S8192x64 .bf16 :=
  k0_pay5 (k0_pay3 Wv Bv V2) (k0_pay4 Wv Bv V2)

/-- The rows of each that trip `k` multiplies. -/
def rows1 (Z : Vec F S8192x64 .bf16) (k : Fin k0_t1_loop.trips) : Vec F S256x64 .bf16 :=
  View.ld (Val := Elt F) (e' := .bf16) Z (Rect.unit (s := S8192x64) (k0_off39 (wAt k)) S256x64.size (k0_off39_inb (wAt k) (chk2_at k)))
def rows2 (Z : Vec F S8192x64 .bf16) (k : Fin k0_t1_loop.trips) : Vec F S2048x64 .bf16 :=
  View.ld (Val := Elt F) (e' := .bf16) Z (Rect.unit (s := S8192x64) (k0_off40 (wAt k)) S2048x64.size (k0_off40_inb (wAt k) (chk2_at k)))
theorem numel_blk : S1x256x2048.numel = S256x2048.numel := by decide +kernel
/-- Block `b` of a large array as the trip loads it, under a leading axis of one. -/
def blkV (X : Vec F S8192x8192 .f32) (b : Fin 128) : Vec F S1x256x2048 .f32 :=
  fun i => View.ld (Val := Elt F) (e' := .f32) X (Rect.unit (s := S8192x8192) (blkOff b) S256x2048.size (blkOff_inb b)) (Shape.reshapeEquiv numel_blk i)

/-- A running sum after one more block, and before trip `k`. -/
def accStep (Z1 Z2 : Vec F S8192x64 .bf16) (X : Vec F S8192x8192 .f32) (k : Fin k0_t1_loop.trips) (s : F .f32) : F .f32 :=
  k0_pay7 (rows1 Z1 k) (rows2 Z2 k) s (blkV X (Ring.bk 128 k))
def accV (Z1 Z2 : Vec F S8192x64 .bf16) (X : Vec F S8192x8192 .f32) : ℕ → F .f32
  | 0 => Scalar.ofBits .f32 0x00000000#32
  | k + 1 => if h : k < k0_t1_loop.trips then accStep Z1 Z2 X ⟨k, h⟩ (accV Z1 Z2 X k) else accV Z1 Z2 X k
theorem accV_succ (Z1 Z2 : Vec F S8192x64 .bf16) (X : Vec F S8192x8192 .f32) (k : Fin k0_t1_loop.trips) :
    accV Z1 Z2 X (k.val + 1) = accStep Z1 Z2 X k (accV Z1 Z2 X k.val) := dif_pos k.isLt
/-- What the last trip stores. -/
def outV (Z1 Z2 : Vec F S8192x64 .bf16) (X Y : Vec F S8192x8192 .f32) : F .f32 := k0_pay10 (accV Z1 Z2 X 128) (accV Z1 Z2 Y 128)

/-! ## Reading buffers back -/

/-- Slot `s` loaded through the ring once block `b` has landed in it: block `b`. -/
theorem slotA_load (c : Dev nD) (XA : Buf (Elt F) (posM.view.loc (c : Thread nD τ))) (s : Fin 6) (b : Fin 128)
    {off : Fin 3 → ℕ} (inb : ∀ a, off a + S1x256x2048.size a ≤ S6x256x2048.size a) (h : off = slotOff s)
    (f : Buf (Elt F) ((slotA s).view.loc (c : Thread nD τ))) :
    ringA.view.readAt (Elt F) (Rect.unit (s := S6x256x2048) off S1x256x2048.size inb).toLoadRect
      ((slotA s).view.writes (Elt F) f [⟨Rect.whole S256x2048, ReadAs.same.apply ((blkA b).view.read (Elt F) XA)⟩])
      = blkV (posM.view.read (Elt F) XA) b := by
  subst h
  funext i
  have e := congrFun (View.read_writes_whole (slotA s).view f (ReadAs.same.apply ((blkA b).view.read (Elt F) XA)))
    (Shape.reshapeEquiv numel_blk i)
  refine Eq.trans ?_ e
  show _ = ringA.view.readAt (Elt F) (Rect.unit (s := S6x256x2048) (slotOff s) S1x256x2048.size inb).toLoadRect _
    (Shape.reshapeEquiv _ (Shape.reshapeEquiv numel_blk i))
  rw [Shape.reshapeEquiv_reshapeEquiv, Shape.reshapeEquiv_self]
theorem slotB_load (c : Dev nD) (XB : Buf (Elt F) (negM.view.loc (c : Thread nD τ))) (s : Fin 6) (b : Fin 128)
    {off : Fin 3 → ℕ} (inb : ∀ a, off a + S1x256x2048.size a ≤ S6x256x2048.size a) (h : off = slotOff s)
    (f : Buf (Elt F) ((slotB s).view.loc (c : Thread nD τ))) :
    ringB.view.readAt (Elt F) (Rect.unit (s := S6x256x2048) off S1x256x2048.size inb).toLoadRect
      ((slotB s).view.writes (Elt F) f [⟨Rect.whole S256x2048, ReadAs.same.apply ((blkB b).view.read (Elt F) XB)⟩])
      = blkV (negM.view.read (Elt F) XB) b := by
  subst h
  funext i
  have e := congrFun (View.read_writes_whole (slotB s).view f (ReadAs.same.apply ((blkB b).view.read (Elt F) XB)))
    (Shape.reshapeEquiv numel_blk i)
  refine Eq.trans ?_ e
  show _ = ringB.view.readAt (Elt F) (Rect.unit (s := S6x256x2048) (slotOff s) S1x256x2048.size inb).toLoadRect _
    (Shape.reshapeEquiv _ (Shape.reshapeEquiv numel_blk i))
  rw [Shape.reshapeEquiv_reshapeEquiv, Shape.reshapeEquiv_self]

/-- A word buffer after its one word is stored reads that word. -/
theorem read_word {sp : CoreSpace} {e : EltTy} (m : Memref sig .tc sp S1 e) (c : Dev nD) (f : Buf (Elt F) (m.view.loc (c : Thread nD τ))) (w : Elt F e)
    (inb : ∀ a, (![0] : Fin 1 → ℕ) a + S1.size a ≤ S1.size a) (L : List (View.Piece (Elt F) S1 e)) :
    m.view.read (Elt F) (m.view.writes (Elt F) f (⟨Rect.unit (s := S1) ![0] S1.size inb, fun _ => w⟩ :: L)) = fun _ => w :=
  View.read_writes_full m.view f inb (fun _ => w) L
theorem read_word2 {sp : CoreSpace} {e : EltTy} (m : Memref sig .tc sp S1x1 e) (c : Dev nD) (f : Buf (Elt F) (m.view.loc (c : Thread nD τ))) (w : Elt F e)
    (inb : ∀ a, (![0, 0] : Fin 2 → ℕ) a + S1x1.size a ≤ S1x1.size a) (L : List (View.Piece (Elt F) S1x1 e)) :
    m.view.read (Elt F) (m.view.writes (Elt F) f (⟨Rect.unit (s := S1x1) ![0, 0] S1x1.size inb, fun _ => w⟩ :: L)) = fun _ => w :=
  View.read_writes_full m.view f inb (fun _ => w) L

end Cert.Proof.KI

end
-- ==== Proof.KI.Trip.lean ====
/-
  One trip of the pipelined loop: at most one block of each array is sent for, one of each is waited for, and the two
  running sums are advanced by it. Four cases: the first trip, which also projects the rows; the trips that still send
  for a block; those that no longer do; and the last, which stores the result.
-/
module

public import proofs.«01_k».proof.Proof.KI.State
public import proofs.«01_k».proof.Proof.RingStep

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.RingStep

variable {F : FTy → Type} [FloatOps F] [Named F]

local notation "𝕄" => MT nD τ sig Unit (Elt F) ℕ (UU nD τ) ℕ

/-! ## Words -/

/-- The words a trip hands to the next. -/
abbrev words (k : ℕ) : BitVec 32 × BitVec 32 × BitVec 32 × BitVec 32 × BitVec 32 × BitVec 32 := (wIn k, wAt k, wIn k, wAt k, wRow k, wCol k)

theorem first_pos : ∀ k : Fin k0_t1_loop.trips, k.val = 0 →
    Scalar.cmpi CmpIPredicate.ne (Scalar.extui (Scalar.cmpi CmpIPredicate.eq (wAt k) 0#32)) 0#32 = 1#1 := by decide +kernel
theorem first_neg : ∀ k : Fin k0_t1_loop.trips, 0 < k.val →
    ¬ Scalar.cmpi CmpIPredicate.ne (Scalar.extui (Scalar.cmpi CmpIPredicate.eq (wAt k) 0#32)) 0#32 = 1#1 := by decide +kernel
theorem last_pos : ∀ k : Fin k0_t1_loop.trips, k.val = 127 →
    Scalar.cmpi CmpIPredicate.ne (Scalar.extui (Scalar.cmpi CmpIPredicate.eq (wAt k) 127#32)) 0#32 = 1#1 := by decide +kernel
theorem last_neg : ∀ k : Fin k0_t1_loop.trips, k.val < 127 →
    ¬ Scalar.cmpi CmpIPredicate.ne (Scalar.extui (Scalar.cmpi CmpIPredicate.eq (wAt k) 127#32)) 0#32 = 1#1 := by decide +kernel

/-! ## The sums' steps -/

theorem pay7_eq {Z1 Z2 : Vec F S8192x64 .bf16} {X : Vec F S8192x8192 .f32} {k : Fin k0_t1_loop.trips} {s s' : F .f32}
    {a : Vec F S256x64 .bf16} {b : Vec F S2048x64 .bf16} {x : Vec F S1x256x2048 .f32}
    (ha : a = rows1 Z1 k) (hb : b = rows2 Z2 k) (hs : s' = s) (hx : x = blkV X (Ring.bk 128 k)) :
    k0_pay7 a b s' x = accStep Z1 Z2 X k s := by subst ha hb hs hx; rfl

theorem load_rows1 (c : Dev nD) (Z : Vec F S8192x64 .bf16) (k : Fin k0_t1_loop.trips) (inb) :
    m7.view.readAt (Elt F) (Rect.unit (s := S8192x64) (k0_off39 (BitVec.ofNat 32 k.val)) S256x64.size inb).toLoadRect ((View.whole cc0_scratch0).rep (Val := Elt F) Z) = rows1 Z k := by
  exact (View.readAt_eq_ld _ _ _).trans (by rw [View.read_rep (View.whole _)]; rfl)
theorem load_rows2 (c : Dev nD) (Z : Vec F S8192x64 .bf16) (k : Fin k0_t1_loop.trips) (inb) :
    m8.view.readAt (Elt F) (Rect.unit (s := S8192x64) (k0_off40 (BitVec.ofNat 32 k.val)) S2048x64.size inb).toLoadRect ((View.whole cc0_scratch1).rep (Val := Elt F) Z) = rows2 Z k := by
  exact (View.readAt_eq_ld _ _ _).trans (by rw [View.read_rep (View.whole _)]; rfl)
theorem load_word {sp : CoreSpace} {e : EltTy} (m : Memref sig .tc sp S1 e) (x : S1.Idx → Elt F e) (w : Elt F e) (h : x = fun _ => w) (R : Rect S1) (i) :
    m.view.readAt (Elt F) R.toLoadRect (m.view.rep (Val := Elt F) x) i = w := by
  rw [View.readAt_apply, View.read_rep, h]

/-- The rows a trip loads start here. -/
instance (k : Fin k0_t1_loop.trips) : ClosedOff (k0_off39 (wAt k)) := ⟨![k.val / 4 * 256, 0], off39_eq k⟩
instance (k : Fin k0_t1_loop.trips) : ClosedOff (k0_off40 (wAt k)) := ⟨![k.val % 4 * 2048, 0], off40_eq k⟩
instance (k : Fin k0_t1_loop.trips) : ClosedOff (k0_off39 (BitVec.ofNat 32 k.val)) := ⟨![k.val / 4 * 256, 0], off39_eq k⟩
instance (k : Fin k0_t1_loop.trips) : ClosedOff (k0_off40 (BitVec.ofNat 32 k.val)) := ⟨![k.val % 4 * 2048, 0], off40_eq k⟩

section Trip

variable (c : Dev nD) (XA : Buf (Elt F) (posM.view.loc (c : Thread nD τ))) (XB : Buf (Elt F) (negM.view.loc (c : Thread nD τ)))
  (arg0 : Memref sig .tc .vmem S8192x64 .f32) (harg0 : arg0.IsWhole) (arg1 : Memref sig .tc .vmem S8192x64 .f32) (harg1 : arg1.IsWhole)
  (arg2 : Memref sig .tc .vmem S64x64 .f32) (harg2 : arg2.IsWhole) (arg3 : Memref sig .tc .vmem S1x64 .f32) (harg3 : arg3.IsWhole)
  (arg6 : Memref sig .tc .smem S1x1 .f32) (harg6 : arg6.IsWhole)
  (V1 V2 : Vec F S8192x64 .f32) (Wv : Vec F S64x64 .f32) (Bv : Vec F S1x64 .f32)

/-- The trip's body over the kernel's own scratch. -/
abbrev bodyT (v27 v28 v37 v38 v47 v48 v109 v118 : BitVec 32) (v122 : BitVec 1) :=
  k0_t1_body (F := F) arg0 harg0 arg1 harg1 arg2 harg2 arg3 harg3 posM (Memref.isWhole_whole _) negM (Memref.isWhole_whole _) arg6 harg6
    m7 (Memref.isWhole_whole _) m8 (Memref.isWhole_whole _) m9 (Memref.isWhole_whole _) m10 (Memref.isWhole_whole _) m11 (Memref.isWhole_whole _)
    ringA (Memref.isWhole_whole _) cc0_scoped1 ringB (Memref.isWhole_whole _) cc0_scoped3 v27 v28 v37 v38 v47 v48 v109 v118 v122

abbrev accA (k : ℕ) : F .f32 := accV (z1V Wv Bv V1) (z2V Wv Bv V2) (posM.view.read (Elt F) XA) k
abbrev accB (k : ℕ) : F .f32 := accV (z1V Wv Bv V1) (z2V Wv Bv V2) (negM.view.read (Elt F) XB) k
abbrev outAB : F .f32 := outV (z1V Wv Bv V1) (z2V Wv Bv V2) (posM.view.read (Elt F) XA) (negM.view.read (Elt F) XB)

/-- What the scratch and the result hold before trip `k`. -/
def Holds (k : ℕ) (x6 : S1x1.Idx → Elt F .f32) (x7 x8 : S8192x64.Idx → Elt F .bf16) (x10 x11 : S1.Idx → Elt F .f32) : Prop :=
  (0 < k → x7 = z1V Wv Bv V1 ∧ x8 = z2V Wv Bv V2 ∧ (x10 = fun _ => accA c XA V1 V2 Wv Bv k) ∧ (x11 = fun _ => accB c XB V1 V2 Wv Bv k))
    ∧ (k = 128 → x6 = fun _ => outAB c XA XB V1 V2 Wv Bv)

/-- The resources before trip `k`. -/
def resAt (k : ℕ) : sProp 𝕄 :=
  iprop((∃ W, owes (c : Thread nD τ) 0 W) ∗ atA c XA k ∗ atB c XB k
    ∗ holds c arg0 (arg0.view.rep V1) ∗ holds c arg1 (arg1.view.rep V2) ∗ holds c arg2 (arg2.view.rep Wv) ∗ holds c arg3 (arg3.view.rep Bv)
    ∗ holds c m9 (m9.view.rep fun _ => wAt k)
    ∗ ∃ x6 x7 x8 x10 x11, ⌜Holds c XA XB V1 V2 Wv Bv k x6 x7 x8 x10 x11⌝ ∗ holds c arg6 (arg6.view.rep x6) ∗ holds c m7 (m7.view.rep x7)
      ∗ holds c m8 (m8.view.rep x8) ∗ holds c m10 (m10.view.rep x10) ∗ holds c m11 (m11.view.rep x11))

local notation "RES" => resAt c XA XB arg0 arg1 arg2 arg3 arg6 V1 V2 Wv Bv

theorem tripMid (k : Fin k0_t1_loop.trips) (hk : k.val + 5 < 128) (h0 : 0 < k.val)
    (v27 v28 v37 v38 v47 v48 v109 v118 : BitVec 32) (v122 : BitVec 1) :
    RES k ⊢ wp frame (wpE (defs₀ (F := F)) 𝒱₀ (c : Thread nD τ) none) Set.univ
      (bodyT arg0 harg0 arg1 harg1 arg2 harg2 arg3 harg3 arg6 harg6 v27 v28 v37 v38 v47 v48 v109 v118 v122 k (words k))
      (fun acc => iprop(⌜acc = words (k + 1)⌝ ∗ RES (k + 1))) := by
  have c9 := cond9_pos k hk
  have c10 := cond10_pos k hk
  have c11 := cond11_pos k
  have c12 := cond12_pos k
  have hw1 := chk1_at k
  have hw2 := chk2_at k
  have hw3 := chk3_at k
  have hw4 := chk4_at k
  have hz := first_neg k h0
  have hn := last_neg k (by omega)
  unfold resAt
  iintro ⟨⟨%W, HW⟩, HA, HB, H0, H1, H2, H3, H9, %x6, %x7, %x8, %x10, %x11, %hx, H6, H7, H8, H10, H11⟩
  obtain ⟨hx, -⟩ := hx
  obtain ⟨e7, e8, e10, e11⟩ := hx h0
  subst e7 e8
  icases (at_issue (homePA c XA) (cellPA c) (slotPA c) (flightPA c XA) k.val hk) $$ HA with ⟨HhA, ⟨HcA, %fA, HsA⟩, ⟨%gA, HfA⟩, HkA⟩
  icases (at_issue (homePB c XB) (cellPB c) (slotPB c) (flightPB c XB) k.val hk) $$ HB with ⟨HhB, ⟨HcB, %fB, HsB⟩, ⟨%gB, HfB⟩, HkB⟩
  dsimp only [bodyT, words]
  sl_unfold [k0_t1_body]
  sl_exec
  have e : tripMid.sl.r (F := F) k = wAt k := load_word _ _ _ rfl _ _
  sl_rw [e]
  sl_exec
  have ew : (tripMid.sl.v322_r0 k, tripMid.sl.v454_r0 k, tripMid.sl.v322_r0 k, tripMid.sl.v454_r0 k, tripMid.sl.v468_r0 k, tripMid.sl.v464_r0 k)
      = words (k.val + 1) := (by decide +kernel : ∀ j : Fin k0_t1_loop.trips,
        (tripMid.sl.v322_r0 j, tripMid.sl.v454_r0 j, tripMid.sl.v322_r0 j, tripMid.sl.v454_r0 j, tripMid.sl.v468_r0 j, tripMid.sl.v464_r0 j) = words (j.val + 1)) k
  have e9 : tripMid.sl.v414_r0 k = wAt (k.val + 1) := (by decide +kernel : ∀ j : Fin k0_t1_loop.trips, tripMid.sl.v414_r0 j = wAt (j.val + 1)) k
  have eA := pay7_eq (X := posM.view.read (Elt F) XA) (load_rows1 c (z1V Wv Bv V1) k (k0_off39_inb (BitVec.ofNat 32 k.val) hw2)) (load_rows2 c (z2V Wv Bv V2) k (k0_off40_inb (BitVec.ofNat 32 k.val) hw2))
    (show tripMid.sl.r_1 (F := F) x10 = accA c XA V1 V2 Wv Bv k from load_word m10 _ _ e10 _ _)
    (show tripMid.sl.v394_r0 c XA k hw3 = _ from slotA_load c XA _ _ _ (off41_eq k) _)
  have eB := pay7_eq (X := negM.view.read (Elt F) XB) (load_rows1 c (z1V Wv Bv V1) k (k0_off39_inb (BitVec.ofNat 32 k.val) hw2)) (load_rows2 c (z2V Wv Bv V2) k (k0_off40_inb (BitVec.ofNat 32 k.val) hw2))
    (show tripMid.sl.r_2 (F := F) x11 = accB c XB V1 V2 Wv Bv k from load_word m11 _ _ e11 _ _)
    (show tripMid.sl.v405_r0 c XB k hw4 = _ from slotB_load c XB _ _ _ (off42_eq k) _)
  ihave G9 := (pointsTo_rep_of_read (c : Thread nD τ) m9 _ fullShare (fun _ => wAt (k.val + 1)) ((read_word m9 c _ _ _ _).trans (funext fun _ => e9))) $$ H9
  ihave G10 := (pointsTo_rep_of_read (c : Thread nD τ) m10 _ fullShare (fun _ => accA c XA V1 V2 Wv Bv (k.val + 1))
    ((read_word m10 c _ _ _ _).trans (funext fun _ => eA.trans (accV_succ _ _ _ k).symm))) $$ H10
  ihave G11 := (pointsTo_rep_of_read (c : Thread nD τ) m11 _ fullShare (fun _ => accB c XB V1 V2 Wv Bv (k.val + 1))
    ((read_word m11 c _ _ _ _).trans (funext fun _ => (show tripMid.sl.v412_r0 c XB V1 V2 Wv Bv k hw2 hw4 x11 = _ from eB).trans (accV_succ _ _ _ k).symm))) $$ H11
  sl_step
  isplitr
  · ipureintro; exact ew
  isplitl [HW]
  · iexists _; iexact HW
  isplitl [HkA HfA_src HcA HfA HfA_dst]
  · iapply HkA
    isplitl [HfA_src]; · iexact HfA_src
    isplitl [HcA]; · unfold Ring.inflight; iexists fA; iexact HcA
    unfold Ring.free
    isplitl [HfA]; · iexact HfA
    iexists _; iexact HfA_dst
  isplitl [HkB HfB_src HcB HfB HfB_dst]
  · iapply HkB
    isplitl [HfB_src]; · iexact HfB_src
    isplitl [HcB]; · unfold Ring.inflight; iexists fB; iexact HcB
    unfold Ring.free
    isplitl [HfB]; · iexact HfB
    iexists _; iexact HfB_dst
  isplitl [H0]; · iexact H0
  isplitl [H1]; · iexact H1
  isplitl [H2]; · iexact H2
  isplitl [H3]; · iexact H3
  isplitl [G9]; · iexact G9
  iexists x6, _, _, _, _
  isplitr
  · ipureintro
    exact ⟨fun _ => ⟨rfl, rfl, rfl, rfl⟩, fun h => absurd h (by omega)⟩
  isplitl [H6]; · iexact H6
  isplitl [H7]; · iexact H7
  isplitl [H8]; · iexact H8
  isplitl [G10]; · iexact G10
  iexact G11
theorem tripTail (k : Fin k0_t1_loop.trips) (hk : 128 ≤ k.val + 5) (hl : k.val < 127)
    (v27 v28 v37 v38 v47 v48 v109 v118 : BitVec 32) (v122 : BitVec 1) :
    RES k ⊢ wp frame (wpE (defs₀ (F := F)) 𝒱₀ (c : Thread nD τ) none) Set.univ
      (bodyT arg0 harg0 arg1 harg1 arg2 harg2 arg3 harg3 arg6 harg6 v27 v28 v37 v38 v47 v48 v109 v118 v122 k (words k))
      (fun acc => iprop(⌜acc = words (k + 1)⌝ ∗ RES (k + 1))) := by
  have c9 := cond9_neg k hk
  have c10 := cond10_neg k hk
  have c11 := cond11_pos k
  have c12 := cond12_pos k
  have hw1 := chk1_at k
  have hw2 := chk2_at k
  have hw3 := chk3_at k
  have hw4 := chk4_at k
  have hlt : k.val < 128 := by omega
  have hz := first_neg k (by omega)
  have hn := last_neg k (by omega)
  unfold resAt
  iintro ⟨⟨%W, HW⟩, HA, HB, H0, H1, H2, H3, H9, %x6, %x7, %x8, %x10, %x11, %hx, H6, H7, H8, H10, H11⟩
  obtain ⟨hx, -⟩ := hx
  obtain ⟨e7, e8, e10, e11⟩ := hx (by omega)
  subst e7 e8
  icases (at_tail (homePA c XA) (cellPA c) (slotPA c) (flightPA c XA) k.val hk hlt) $$ HA with ⟨⟨%gA, HfA⟩, HkA⟩
  icases (at_tail (homePB c XB) (cellPB c) (slotPB c) (flightPB c XB) k.val hk hlt) $$ HB with ⟨⟨%gB, HfB⟩, HkB⟩
  dsimp only [bodyT, words]
  sl_unfold [k0_t1_body]
  sl_exec
  have e : tripTail.sl.r (F := F) k = wAt k := load_word _ _ _ rfl _ _
  sl_rw [e]
  sl_exec
  have ew : (tripTail.sl.v322_r0 k, tripTail.sl.v454_r0 k, tripTail.sl.v322_r0 k, tripTail.sl.v454_r0 k, tripTail.sl.v468_r0 k, tripTail.sl.v464_r0 k)
      = words (k.val + 1) := (by decide +kernel : ∀ j : Fin k0_t1_loop.trips,
        (tripTail.sl.v322_r0 j, tripTail.sl.v454_r0 j, tripTail.sl.v322_r0 j, tripTail.sl.v454_r0 j, tripTail.sl.v468_r0 j, tripTail.sl.v464_r0 j) = words (j.val + 1)) k
  have e9 : tripTail.sl.v414_r0 k = wAt (k.val + 1) := (by decide +kernel : ∀ j : Fin k0_t1_loop.trips, tripTail.sl.v414_r0 j = wAt (j.val + 1)) k
  have eA := pay7_eq (X := posM.view.read (Elt F) XA) (load_rows1 c (z1V Wv Bv V1) k (k0_off39_inb (BitVec.ofNat 32 k.val) hw2)) (load_rows2 c (z2V Wv Bv V2) k (k0_off40_inb (BitVec.ofNat 32 k.val) hw2))
    (show tripTail.sl.r_1 (F := F) x10 = accA c XA V1 V2 Wv Bv k from load_word m10 _ _ e10 _ _)
    (show tripTail.sl.v394_r0 c XA k hw3 = _ from slotA_load c XA _ _ _ (off41_eq k) _)
  have eB := pay7_eq (X := negM.view.read (Elt F) XB) (load_rows1 c (z1V Wv Bv V1) k (k0_off39_inb (BitVec.ofNat 32 k.val) hw2)) (load_rows2 c (z2V Wv Bv V2) k (k0_off40_inb (BitVec.ofNat 32 k.val) hw2))
    (show tripTail.sl.r_2 (F := F) x11 = accB c XB V1 V2 Wv Bv k from load_word m11 _ _ e11 _ _)
    (show tripTail.sl.v405_r0 c XB k hw4 = _ from slotB_load c XB _ _ _ (off42_eq k) _)
  ihave G9 := (pointsTo_rep_of_read (c : Thread nD τ) m9 _ fullShare (fun _ => wAt (k.val + 1)) ((read_word m9 c _ _ _ _).trans (funext fun _ => e9))) $$ H9
  ihave G10 := (pointsTo_rep_of_read (c : Thread nD τ) m10 _ fullShare (fun _ => accA c XA V1 V2 Wv Bv (k.val + 1))
    ((read_word m10 c _ _ _ _).trans (funext fun _ => eA.trans (accV_succ _ _ _ k).symm))) $$ H10
  ihave G11 := (pointsTo_rep_of_read (c : Thread nD τ) m11 _ fullShare (fun _ => accB c XB V1 V2 Wv Bv (k.val + 1))
    ((read_word m11 c _ _ _ _).trans (funext fun _ => (show tripTail.sl.v412_r0 c XB V1 V2 Wv Bv k hw2 hw4 x11 = _ from eB).trans (accV_succ _ _ _ k).symm))) $$ H11
  sl_step
  isplitr
  · ipureintro; exact ew
  isplitl [HW]
  · iexists _; iexact HW
  isplitl [HkA HfA_src HfA HfA_dst]
  · iapply HkA
    isplitl [HfA_src]; · iexact HfA_src
    unfold Ring.free
    isplitl [HfA]; · iexact HfA
    iexists _; iexact HfA_dst
  isplitl [HkB HfB_src HfB HfB_dst]
  · iapply HkB
    isplitl [HfB_src]; · iexact HfB_src
    unfold Ring.free
    isplitl [HfB]; · iexact HfB
    iexists _; iexact HfB_dst
  isplitl [H0]; · iexact H0
  isplitl [H1]; · iexact H1
  isplitl [H2]; · iexact H2
  isplitl [H3]; · iexact H3
  isplitl [G9]; · iexact G9
  iexists x6, _, _, _, _
  isplitr
  · ipureintro
    exact ⟨fun _ => ⟨rfl, rfl, rfl, rfl⟩, fun h => absurd h (by omega)⟩
  isplitl [H6]; · iexact H6
  isplitl [H7]; · iexact H7
  isplitl [H8]; · iexact H8
  isplitl [G10]; · iexact G10
  iexact G11
theorem tripFirst (k : Fin k0_t1_loop.trips) (hk : k.val + 5 < 128) (h0 : k.val = 0)
    (v27 v28 v37 v38 v47 v48 v109 v118 : BitVec 32) (v122 : BitVec 1) :
    RES k ⊢ wp frame (wpE (defs₀ (F := F)) 𝒱₀ (c : Thread nD τ) none) Set.univ
      (bodyT arg0 harg0 arg1 harg1 arg2 harg2 arg3 harg3 arg6 harg6 v27 v28 v37 v38 v47 v48 v109 v118 v122 k (words k))
      (fun acc => iprop(⌜acc = words (k + 1)⌝ ∗ RES (k + 1))) := by
  have c9 := cond9_pos k hk
  have c10 := cond10_pos k hk
  have c11 := cond11_pos k
  have c12 := cond12_pos k
  have hw1 := chk1_at k
  have hw2 := chk2_at k
  have hw3 := chk3_at k
  have hw4 := chk4_at k
  have hz := first_pos k h0
  have hn := last_neg k (by omega)
  unfold resAt
  iintro ⟨⟨%W, HW⟩, HA, HB, H0, H1, H2, H3, H9, %x6, %x7, %x8, %x10, %x11, %hx, H6, H7, H8, H10, H11⟩
  obtain ⟨hx, -⟩ := hx
  icases (at_issue (homePA c XA) (cellPA c) (slotPA c) (flightPA c XA) k.val hk) $$ HA with ⟨HhA, ⟨HcA, %fA, HsA⟩, ⟨%gA, HfA⟩, HkA⟩
  icases (at_issue (homePB c XB) (cellPB c) (slotPB c) (flightPB c XB) k.val hk) $$ HB with ⟨HhB, ⟨HcB, %fB, HsB⟩, ⟨%gB, HfB⟩, HkB⟩
  dsimp only [bodyT, words]
  sl_unfold [k0_t1_body]
  sl_exec
  have e : tripFirst.sl.r (F := F) k = wAt k := load_word _ _ _ rfl _ _
  sl_rw [e]
  sl_exec
  have ew : (tripFirst.sl.v322_r0 k, tripFirst.sl.v454_r0 k, tripFirst.sl.v322_r0 k, tripFirst.sl.v454_r0 k, tripFirst.sl.v468_r0 k, tripFirst.sl.v464_r0 k)
      = words (k.val + 1) := (by decide +kernel : ∀ j : Fin k0_t1_loop.trips,
        (tripFirst.sl.v322_r0 j, tripFirst.sl.v454_r0 j, tripFirst.sl.v322_r0 j, tripFirst.sl.v454_r0 j, tripFirst.sl.v468_r0 j, tripFirst.sl.v464_r0 j) = words (j.val + 1)) k
  have e9 : tripFirst.sl.v414_r0 k = wAt (k.val + 1) := (by decide +kernel : ∀ j : Fin k0_t1_loop.trips, tripFirst.sl.v414_r0 j = wAt (j.val + 1)) k
  have l2 : View.readAt (Elt F) arg2.view (Rect.unit (s := S64x64) ![0, 0] S64x64.size inb_S64x64_S64x64_0_0).toLoadRect (arg2.view.rep (Val := Elt F) Wv) = Wv :=
    View.readAt_rep_full arg2.view Wv _
  have l3 : View.readAt (Elt F) arg3.view (Rect.unit (s := S1x64) ![0, 0] S1x64.size inb_S1x64_S1x64_0_0).toLoadRect (arg3.view.rep (Val := Elt F) Bv) = Bv :=
    View.readAt_rep_full arg3.view Bv _
  have l0 : View.readAt (Elt F) arg0.view (Rect.unit (s := S8192x64) ![0, 0] S8192x64.size inb_S8192x64_S8192x64_0_0).toLoadRect (arg0.view.rep (Val := Elt F) V1) = V1 :=
    View.readAt_rep_full arg0.view V1 _
  have l1 : View.readAt (Elt F) arg1.view (Rect.unit (s := S8192x64) ![0, 0] S8192x64.size inb_S8192x64_S8192x64_0_0).toLoadRect (arg1.view.rep (Val := Elt F) V2) = V2 :=
    View.readAt_rep_full arg1.view V2 _
  have p2 : k0_pay2 (View.readAt (Elt F) arg2.view (Rect.unit (s := S64x64) ![0, 0] S64x64.size inb_S64x64_S64x64_0_0).toLoadRect (arg2.view.rep Wv))
      (View.readAt (Elt F) arg3.view (Rect.unit (s := S1x64) ![0, 0] S1x64.size inb_S1x64_S1x64_0_0).toLoadRect (arg3.view.rep Bv))
      (View.readAt (Elt F) arg0.view (Rect.unit (s := S8192x64) ![0, 0] S8192x64.size inb_S8192x64_S8192x64_0_0).toLoadRect (arg0.view.rep V1))
      = z1V Wv Bv V1 := by rw [l2, l3, l0]; rfl
  have p5 : k0_pay5 (k0_pay3 (View.readAt (Elt F) arg2.view (Rect.unit (s := S64x64) ![0, 0] S64x64.size inb_S64x64_S64x64_0_0).toLoadRect (arg2.view.rep Wv))
      (View.readAt (Elt F) arg3.view (Rect.unit (s := S1x64) ![0, 0] S1x64.size inb_S1x64_S1x64_0_0).toLoadRect (arg3.view.rep Bv))
      (View.readAt (Elt F) arg1.view (Rect.unit (s := S8192x64) ![0, 0] S8192x64.size inb_S8192x64_S8192x64_0_0).toLoadRect (arg1.view.rep V2)))
      (k0_pay4 (View.readAt (Elt F) arg2.view (Rect.unit (s := S64x64) ![0, 0] S64x64.size inb_S64x64_S64x64_0_0).toLoadRect (arg2.view.rep Wv))
      (View.readAt (Elt F) arg3.view (Rect.unit (s := S1x64) ![0, 0] S1x64.size inb_S1x64_S1x64_0_0).toLoadRect (arg3.view.rep Bv))
      (View.readAt (Elt F) arg1.view (Rect.unit (s := S8192x64) ![0, 0] S8192x64.size inb_S8192x64_S8192x64_0_0).toLoadRect (arg1.view.rep V2)))
      = z2V Wv Bv V2 := by rw [l2, l3, l1]; rfl
  have e7 : m7.view.read (Elt F) (m7.view.writes (Elt F) m7.view.junk (tripFirst.sl.H7_1 arg0 arg2 arg3 V1 Wv Bv)) = z1V Wv Bv V1 :=
    (View.read_writes_full m7.view _ inb_S8192x64_S8192x64_0_0 _ []).trans p2
  have e8 : m8.view.read (Elt F) (m8.view.writes (Elt F) m8.view.junk (tripFirst.sl.H8_1 arg1 arg2 arg3 V2 Wv Bv)) = z2V Wv Bv V2 :=
    (View.read_writes_full m8.view _ inb_S8192x64_S8192x64_0_0 _ []).trans p5
  have r7 : tripFirst.sl.v386_r0 arg0 arg2 arg3 V1 Wv Bv k hw2 = rows1 (z1V Wv Bv V1) k := by rw [← e7]; rfl
  have r8 : View.readAt (Elt F) m8.view (Rect.unit (s := S8192x64) (k0_off40 (BitVec.ofNat 32 k.val)) S2048x64.size (k0_off40_inb (BitVec.ofNat 32 k.val) hw2)).toLoadRect
      (m8.view.writes (Elt F) m8.view.junk (tripFirst.sl.H8_1 arg1 arg2 arg3 V2 Wv Bv)) = rows2 (z2V Wv Bv V2) k := by rw [← e8]; rfl
  have a0 : tripFirst.sl.cst_324_r0 (F := F) = accA c XA V1 V2 Wv Bv k := by rw [h0]; rfl
  have b0 : tripFirst.sl.cst_324_r0 (F := F) = accB c XB V1 V2 Wv Bv k := by rw [h0]; rfl
  have eA := pay7_eq (X := posM.view.read (Elt F) XA) r7 r8 a0
    (show tripFirst.sl.v394_r0 c XA k hw3 = _ from slotA_load c XA _ _ _ (off41_eq k) _)
  have eB := pay7_eq (X := negM.view.read (Elt F) XB) r7 r8 b0
    (show tripFirst.sl.v405_r0 c XB k hw4 = _ from slotB_load c XB _ _ _ (off42_eq k) _)
  ihave G7 := (pointsTo_rep_of_read (c : Thread nD τ) m7 _ fullShare _ e7) $$ H7
  ihave G8 := (pointsTo_rep_of_read (c : Thread nD τ) m8 _ fullShare _ e8) $$ H8
  ihave G9 := (pointsTo_rep_of_read (c : Thread nD τ) m9 _ fullShare (fun _ => wAt (k.val + 1)) ((read_word m9 c _ _ _ _).trans (funext fun _ => e9))) $$ H9
  ihave G10 := (pointsTo_rep_of_read (c : Thread nD τ) m10 _ fullShare (fun _ => accA c XA V1 V2 Wv Bv (k.val + 1))
    ((read_word m10 c _ _ _ _).trans (funext fun _ => eA.trans (accV_succ _ _ _ k).symm))) $$ H10
  ihave G11 := (pointsTo_rep_of_read (c : Thread nD τ) m11 _ fullShare (fun _ => accB c XB V1 V2 Wv Bv (k.val + 1))
    ((read_word m11 c _ _ _ _).trans (funext fun _ => (show tripFirst.sl.v412_r0 c XB arg0 arg1 arg2 arg3 V1 V2 Wv Bv k hw2 hw4 = _ from eB).trans (accV_succ _ _ _ k).symm))) $$ H11
  sl_step
  isplitr
  · ipureintro; exact ew
  isplitl [HW]
  · iexists _; iexact HW
  isplitl [HkA HfA_src HcA HfA HfA_dst]
  · iapply HkA
    isplitl [HfA_src]; · iexact HfA_src
    isplitl [HcA]; · unfold Ring.inflight; iexists fA; iexact HcA
    unfold Ring.free
    isplitl [HfA]; · iexact HfA
    iexists _; iexact HfA_dst
  isplitl [HkB HfB_src HcB HfB HfB_dst]
  · iapply HkB
    isplitl [HfB_src]; · iexact HfB_src
    isplitl [HcB]; · unfold Ring.inflight; iexists fB; iexact HcB
    unfold Ring.free
    isplitl [HfB]; · iexact HfB
    iexists _; iexact HfB_dst
  isplitl [H0]; · iexact H0
  isplitl [H1]; · iexact H1
  isplitl [H2]; · iexact H2
  isplitl [H3]; · iexact H3
  isplitl [G9]; · iexact G9
  iexists x6, _, _, _, _
  isplitr
  · ipureintro
    exact ⟨fun _ => ⟨rfl, rfl, rfl, rfl⟩, fun h => absurd h (by omega)⟩
  isplitl [H6]; · iexact H6
  isplitl [G7]; · iexact G7
  isplitl [G8]; · iexact G8
  isplitl [G10]; · iexact G10
  iexact G11
theorem tripLast (k : Fin k0_t1_loop.trips) (hl : k.val = 127)
    (v27 v28 v37 v38 v47 v48 v109 v118 : BitVec 32) (v122 : BitVec 1) :
    RES k ⊢ wp frame (wpE (defs₀ (F := F)) 𝒱₀ (c : Thread nD τ) none) Set.univ
      (bodyT arg0 harg0 arg1 harg1 arg2 harg2 arg3 harg3 arg6 harg6 v27 v28 v37 v38 v47 v48 v109 v118 v122 k (words k))
      (fun acc => iprop(⌜acc = words (k + 1)⌝ ∗ RES (k + 1))) := by
  have hk : 128 ≤ k.val + 5 := by omega
  have c9 := cond9_neg k hk
  have c10 := cond10_neg k hk
  have c11 := cond11_pos k
  have c12 := cond12_pos k
  have hw1 := chk1_at k
  have hw2 := chk2_at k
  have hw3 := chk3_at k
  have hw4 := chk4_at k
  have hlt : k.val < 128 := by omega
  have hz := first_neg k (by omega)
  have hn := last_pos k hl
  unfold resAt
  iintro ⟨⟨%W, HW⟩, HA, HB, H0, H1, H2, H3, H9, %x6, %x7, %x8, %x10, %x11, %hx, H6, H7, H8, H10, H11⟩
  obtain ⟨hx, -⟩ := hx
  obtain ⟨e7, e8, e10, e11⟩ := hx (by omega)
  subst e7 e8
  icases (at_tail (homePA c XA) (cellPA c) (slotPA c) (flightPA c XA) k.val hk hlt) $$ HA with ⟨⟨%gA, HfA⟩, HkA⟩
  icases (at_tail (homePB c XB) (cellPB c) (slotPB c) (flightPB c XB) k.val hk hlt) $$ HB with ⟨⟨%gB, HfB⟩, HkB⟩
  dsimp only [bodyT, words]
  sl_unfold [k0_t1_body]
  sl_exec
  have e : tripLast.sl.r (F := F) k = wAt k := load_word _ _ _ rfl _ _
  sl_rw [e]
  sl_exec
  have ew : (tripLast.sl.v322_r0 k, tripLast.sl.v454_r0 k, tripLast.sl.v322_r0 k, tripLast.sl.v454_r0 k, tripLast.sl.v468_r0 k, tripLast.sl.v464_r0 k)
      = words (k.val + 1) := (by decide +kernel : ∀ j : Fin k0_t1_loop.trips,
        (tripLast.sl.v322_r0 j, tripLast.sl.v454_r0 j, tripLast.sl.v322_r0 j, tripLast.sl.v454_r0 j, tripLast.sl.v468_r0 j, tripLast.sl.v464_r0 j) = words (j.val + 1)) k
  have e9 : tripLast.sl.v414_r0 k = wAt (k.val + 1) := (by decide +kernel : ∀ j : Fin k0_t1_loop.trips, tripLast.sl.v414_r0 j = wAt (j.val + 1)) k
  have eA := pay7_eq (X := posM.view.read (Elt F) XA) (load_rows1 c (z1V Wv Bv V1) k (k0_off39_inb (BitVec.ofNat 32 k.val) hw2)) (load_rows2 c (z2V Wv Bv V2) k (k0_off40_inb (BitVec.ofNat 32 k.val) hw2))
    (show tripLast.sl.r_1 (F := F) x10 = accA c XA V1 V2 Wv Bv k from load_word m10 _ _ e10 _ _)
    (show tripLast.sl.v394_r0 c XA k hw3 = _ from slotA_load c XA _ _ _ (off41_eq k) _)
  have eB := pay7_eq (X := negM.view.read (Elt F) XB) (load_rows1 c (z1V Wv Bv V1) k (k0_off39_inb (BitVec.ofNat 32 k.val) hw2)) (load_rows2 c (z2V Wv Bv V2) k (k0_off40_inb (BitVec.ofNat 32 k.val) hw2))
    (show tripLast.sl.r_2 (F := F) x11 = accB c XB V1 V2 Wv Bv k from load_word m11 _ _ e11 _ _)
    (show tripLast.sl.v405_r0 c XB k hw4 = _ from slotB_load c XB _ _ _ (off42_eq k) _)
  have e6 : tripLast.sl.v474_r0 c XA XB V1 V2 Wv Bv k hw2 hw3 hw4 x10 x11 = outAB c XA XB V1 V2 Wv Bv := by
    refine (show _ = k0_pay10 _ _ from rfl : _ = k0_pay10 (k0_pay7 (View.readAt (Elt F) m7.view (Rect.unit (s := S8192x64) (k0_off39 (BitVec.ofNat 32 k.val)) S256x64.size (k0_off39_inb (BitVec.ofNat 32 k.val) hw2)).toLoadRect
      ((View.whole cc0_scratch0).rep (z1V Wv Bv V1))) _ _ _) (k0_pay7 _ _ _ _)).trans ?_
    rw [eA, eB, ← accV_succ, ← accV_succ, hl]
    rfl
  ihave G9 := (pointsTo_rep_of_read (c : Thread nD τ) m9 _ fullShare (fun _ => wAt (k.val + 1)) ((read_word m9 c _ _ _ _).trans (funext fun _ => e9))) $$ H9
  ihave G10 := (pointsTo_rep_of_read (c : Thread nD τ) m10 _ fullShare (fun _ => accA c XA V1 V2 Wv Bv (k.val + 1))
    ((read_word m10 c _ _ _ _).trans (funext fun _ => eA.trans (accV_succ _ _ _ k).symm))) $$ H10
  ihave G11 := (pointsTo_rep_of_read (c : Thread nD τ) m11 _ fullShare (fun _ => accB c XB V1 V2 Wv Bv (k.val + 1))
    ((read_word m11 c _ _ _ _).trans (funext fun _ => (show tripLast.sl.v412_r0 c XB V1 V2 Wv Bv k hw2 hw4 x11 = _ from eB).trans (accV_succ _ _ _ k).symm))) $$ H11
  ihave G6 := (pointsTo_rep_of_read (c : Thread nD τ) arg6 _ fullShare (fun _ => outAB c XA XB V1 V2 Wv Bv)
    ((read_word2 arg6 c _ _ _ _).trans (funext fun _ => e6))) $$ H6
  sl_step
  isplitr
  · ipureintro; exact ew
  isplitl [HW]
  · iexists _; iexact HW
  isplitl [HkA HfA_src HfA HfA_dst]
  · iapply HkA
    isplitl [HfA_src]; · iexact HfA_src
    unfold Ring.free
    isplitl [HfA]; · iexact HfA
    iexists _; iexact HfA_dst
  isplitl [HkB HfB_src HfB HfB_dst]
  · iapply HkB
    isplitl [HfB_src]; · iexact HfB_src
    unfold Ring.free
    isplitl [HfB]; · iexact HfB
    iexists _; iexact HfB_dst
  isplitl [H0]; · iexact H0
  isplitl [H1]; · iexact H1
  isplitl [H2]; · iexact H2
  isplitl [H3]; · iexact H3
  isplitl [G9]; · iexact G9
  iexists _, _, _, _, _
  isplitr
  · ipureintro
    exact ⟨fun _ => ⟨rfl, rfl, rfl, rfl⟩, fun _ => rfl⟩
  isplitl [G6]; · iexact G6
  isplitl [H7]; · iexact H7
  isplitl [H8]; · iexact H8
  isplitl [G10]; · iexact G10
  iexact G11
/-- Any trip. -/
theorem trip (k : Fin k0_t1_loop.trips) (v27 v28 v37 v38 v47 v48 v109 v118 : BitVec 32) (v122 : BitVec 1) :
    RES k ⊢ wp frame (wpE (defs₀ (F := F)) 𝒱₀ (c : Thread nD τ) none) Set.univ
      (bodyT arg0 harg0 arg1 harg1 arg2 harg2 arg3 harg3 arg6 harg6 v27 v28 v37 v38 v47 v48 v109 v118 v122 k (words k))
      (fun acc => iprop(⌜acc = words (k + 1)⌝ ∗ RES (k + 1))) := by
  have hlt : k.val < 128 := trips_eq ▸ k.isLt
  by_cases h0 : k.val = 0
  · exact tripFirst c XA XB arg0 harg0 arg1 harg1 arg2 harg2 arg3 harg3 arg6 harg6 V1 V2 Wv Bv k (by omega) h0 v27 v28 v37 v38 v47 v48 v109 v118 v122
  by_cases hk : k.val + 5 < 128
  · exact tripMid c XA XB arg0 harg0 arg1 harg1 arg2 harg2 arg3 harg3 arg6 harg6 V1 V2 Wv Bv k hk (by omega) v27 v28 v37 v38 v47 v48 v109 v118 v122
  by_cases hl : k.val = 127
  · exact tripLast c XA XB arg0 harg0 arg1 harg1 arg2 harg2 arg3 harg3 arg6 harg6 V1 V2 Wv Bv k hl v27 v28 v37 v38 v47 v48 v109 v118 v122
  · exact tripTail c XA XB arg0 harg0 arg1 harg1 arg2 harg2 arg3 harg3 arg6 harg6 V1 V2 Wv Bv k (by omega) (by omega) v27 v28 v37 v38 v47 v48 v109 v118 v122

end Trip
end Cert.Proof.KI
end
-- ==== Proof.KI.Body.lean ====
/-
  The kernel's body at its one grid point: five blocks of each large array are sent for, the loop runs 128 trips, and
  every slot and block is back where it was, the result's word stored.
-/
module

public import proofs.«01_k».proof.Proof.KI.Trip
public import proofs.«01_k».proof.Proof.Gen.KernelIdeal.Loops

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.RingStep

variable {F : FTy → Type} [FloatOps F] [Named F]

local notation "𝕄" => MT nD τ sig Unit (Elt F) ℕ (UU nD τ) ℕ

section Body

variable (c : Dev nD) (XA : Buf (Elt F) (posM.view.loc (c : Thread nD τ))) (XB : Buf (Elt F) (negM.view.loc (c : Thread nD τ)))
  (arg0 : Memref sig .tc .vmem S8192x64 .f32) (harg0 : arg0.IsWhole) (arg1 : Memref sig .tc .vmem S8192x64 .f32) (harg1 : arg1.IsWhole)
  (arg2 : Memref sig .tc .vmem S64x64 .f32) (harg2 : arg2.IsWhole) (arg3 : Memref sig .tc .vmem S1x64 .f32) (harg3 : arg3.IsWhole)
  (arg6 : Memref sig .tc .smem S1x1 .f32) (harg6 : arg6.IsWhole)
  (V1 V2 : Vec F S8192x64 .f32) (Wv : Vec F S64x64 .f32) (Bv : Vec F S1x64 .f32)

local notation "RES" => resAt c XA XB arg0 arg1 arg2 arg3 arg6 V1 V2 Wv Bv

/-- The body over the kernel's own buffers. -/
abbrev bodyG : Prog (TpuEff nD τ sig (Elt F) Λ₀ .tc) PUnit :=
  cc0__outer_kernel (F := F) arg0 harg0 arg1 harg1 arg2 harg2 arg3 harg3 posM (Memref.isWhole_whole _) negM (Memref.isWhole_whole _) arg6 harg6
    m7 (Memref.isWhole_whole _) m8 (Memref.isWhole_whole _) m9 (Memref.isWhole_whole _) m10 (Memref.isWhole_whole _) m11 (Memref.isWhole_whole _)
    ringA (Memref.isWhole_whole _) cc0_scoped1 ringB (Memref.isWhole_whole _) cc0_scoped3

set_option warn.classDefReducibility false in
/-- The loop's invariant: the carried words and the resources before trip `k`. -/
def loopInv (v27 v28 v37 v38 v47 v48 v109 v118 : BitVec 32) (v122 : BitVec 1) (init : BitVec 32 × BitVec 32 × BitVec 32 × BitVec 32 × BitVec 32 × BitVec 32) :
    LoopInvTy_k0_t1 (F := F) Unit ℕ (UU nD τ) ℕ 𝒱₀ c none Set.univ arg0 harg0 arg1 harg1 arg2 harg2 arg3 harg3 posM (Memref.isWhole_whole _) negM (Memref.isWhole_whole _) arg6 harg6
    m7 (Memref.isWhole_whole _) m8 (Memref.isWhole_whole _) m9 (Memref.isWhole_whole _) m10 (Memref.isWhole_whole _) m11 (Memref.isWhole_whole _)
    ringA (Memref.isWhole_whole _) cc0_scoped1 ringB (Memref.isWhole_whole _) cc0_scoped3 v27 v28 v37 v38 v47 v48 v109 v118 v122 init where
  inv k acc := iprop(⌜acc = words k⌝ ∗ RES k)
  step k acc := by
    iintro ⟨%e, H⟩
    subst e
    iapply (trip c XA XB arg0 harg0 arg1 harg1 arg2 harg2 arg3 harg3 arg6 harg6 V1 V2 Wv Bv k v27 v28 v37 v38 v47 v48 v109 v118 v122)
    iexact H

/-- The rings at rest. -/
abbrev restA : sProp 𝕄 := Ring.At₀ (NB := 128) (cellPA c) (slotPA c) (homePA c XA)
abbrev restB : sProp 𝕄 := Ring.At₀ (NB := 128) (cellPB c) (slotPB c) (homePB c XB)

/-- What the body takes and gives back beside the result's word. -/
def Around : sProp 𝕄 :=
  iprop((∃ W, owes (c : Thread nD τ) 0 W) ∗ restA c XA ∗ restB c XB
    ∗ holds c arg0 (arg0.view.rep V1) ∗ holds c arg1 (arg1.view.rep V2) ∗ holds c arg2 (arg2.view.rep Wv) ∗ holds c arg3 (arg3.view.rep Bv)
    ∗ (∃ f, holds c m7 f) ∗ (∃ f, holds c m8 f) ∗ (∃ f, holds c m9 f) ∗ (∃ f, holds c m10 f) ∗ (∃ f, holds c m11 f))

attribute [local irreducible] resAt

theorem bodyRun (g6 : Buf (Elt F) (arg6.view.loc (c : Thread nD τ))) (Q : PUnit → sProp 𝕄) :
    iprop((Around c XA XB arg0 arg1 arg2 arg3 V1 V2 Wv Bv ∗ holds c arg6 g6)
        ∗ ((Around c XA XB arg0 arg1 arg2 arg3 V1 V2 Wv Bv ∗ holds c arg6 (arg6.view.rep fun _ => outAB c XA XB V1 V2 Wv Bv)) -∗ Q ⟨⟩))
      ⊢ wp frame (wpE (defs₀ (F := F)) 𝒱₀ (c : Thread nD τ) none) Set.univ (bodyG arg0 harg0 arg1 harg1 arg2 harg2 arg3 harg3 arg6 harg6) Q := by
  have k1 := cond1_pos
  have k2 := cond2_pos
  have k3 := cond3_pos
  have k4 := cond4_pos
  have k5 := cond5_pos
  have k6 := cond6_pos
  have k7 := cond7_pos
  have k8 := cond8_pos
  unfold Around
  iintro ⟨⟨⟨⟨%W, HW⟩, HA, HB, H0, H1, H2, H3, ⟨%f7, H7⟩, ⟨%f8, H8⟩, ⟨%f9, H9⟩, ⟨%f10, H10⟩, ⟨%f11, H11⟩⟩, H6⟩, Hk⟩
  icases (at_start (homePA c XA) (cellPA c) (slotPA c) (flightPA c XA) (by decide)) $$ HA with
    ⟨⟨HhA0, HhA1, HhA2, HhA3, HhA4⟩, ⟨⟨HcA0, %fA0, HsA0⟩, ⟨HcA1, %fA1, HsA1⟩, ⟨HcA2, %fA2, HsA2⟩, ⟨HcA3, %fA3, HsA3⟩, ⟨HcA4, %fA4, HsA4⟩⟩, HkA⟩
  icases (at_start (homePB c XB) (cellPB c) (slotPB c) (flightPB c XB) (by decide)) $$ HB with
    ⟨⟨HhB0, HhB1, HhB2, HhB3, HhB4⟩, ⟨⟨HcB0, %fB0, HsB0⟩, ⟨HcB1, %fB1, HsB1⟩, ⟨HcB2, %fB2, HsB2⟩, ⟨HcB3, %fB3, HsB3⟩, ⟨HcB4, %fB4, HsB4⟩⟩, HkB⟩
  sl_exec
  ihave G9 := (pointsTo_rep_of_read (c : Thread nD τ) m9 _ fullShare (fun _ => wAt 0) (read_word m9 c _ _ _ _)) $$ H9
  ihave G6 := (pointsTo_rep_entails (c : Thread nD τ) arg6 g6 fullShare) $$ H6
  ihave G7 := (pointsTo_rep_entails (c : Thread nD τ) m7 f7 fullShare) $$ H7
  ihave G8 := (pointsTo_rep_entails (c : Thread nD τ) m8 f8 fullShare) $$ H8
  ihave G10 := (pointsTo_rep_entails (c : Thread nD τ) m10 f10 fullShare) $$ H10
  ihave G11 := (pointsTo_rep_entails (c : Thread nD τ) m11 f11 fullShare) $$ H11
  ihave HR : RES 0 $$ [HW HkA HcA0 HcA1 HcA2 HcA3 HcA4 HkB HcB0 HcB1 HcB2 HcB3 HcB4 H0 H1 H2 H3 G9 G6 G7 G8 G10 G11]
  · unfold resAt
    isplitl [HW]; · iexists _; iexact HW
    isplitl [HkA HcA0 HcA1 HcA2 HcA3 HcA4]
    · iapply HkA
      isplitl [HcA0]; · unfold Ring.inflight; iexists fA0; iexact HcA0
      isplitl [HcA1]; · unfold Ring.inflight; iexists fA1; iexact HcA1
      isplitl [HcA2]; · unfold Ring.inflight; iexists fA2; iexact HcA2
      isplitl [HcA3]; · unfold Ring.inflight; iexists fA3; iexact HcA3
      unfold Ring.inflight; iexists fA4; iexact HcA4
    isplitl [HkB HcB0 HcB1 HcB2 HcB3 HcB4]
    · iapply HkB
      isplitl [HcB0]; · unfold Ring.inflight; iexists fB0; iexact HcB0
      isplitl [HcB1]; · unfold Ring.inflight; iexists fB1; iexact HcB1
      isplitl [HcB2]; · unfold Ring.inflight; iexists fB2; iexact HcB2
      isplitl [HcB3]; · unfold Ring.inflight; iexists fB3; iexact HcB3
      unfold Ring.inflight; iexists fB4; iexact HcB4
    isplitl [H0]; · iexact H0
    isplitl [H1]; · iexact H1
    isplitl [H2]; · iexact H2
    isplitl [H3]; · iexact H3
    isplitl [G9]; · iexact G9
    iexists (arg6.view.read (Elt F) g6), (m7.view.read (Elt F) f7), (m8.view.read (Elt F) f8), (m10.view.read (Elt F) f10), (m11.view.read (Elt F) f11)
    isplitr
    · ipureintro
      exact ⟨fun h => absurd h (lt_irrefl 0), fun h => absurd h (by decide)⟩
    isplitl [G6]; · iexact G6
    isplitl [G7]; · iexact G7
    isplitl [G8]; · iexact G8
    isplitl [G10]; · iexact G10
    iexact G11
  let I := loopInv c XA XB arg0 harg0 arg1 harg1 arg2 harg2 arg3 harg3 arg6 harg6 V1 V2 Wv Bv 0#32 2#32 0#32 3#32 1#32 0#32 3#32 3#32 1#1 (words 0)
  sl_exec
  sl_step
  unfold resAt
  rw [show Scf.trips k0_t1_loop.lb k0_t1_loop.ub k0_t1_loop.st = 128 from trips_eq]
  icases HR with ⟨HW, HA, HB, H0, H1, H2, H3, H9, %x6, %x7, %x8, %x10, %x11, %hx, H6, H7, H8, H10, H11⟩
  obtain ⟨-, e6⟩ := hx
  rw [e6 rfl]
  iapply Hk
  isplitr [H6]
  · isplitl [HW]; · iexact HW
    isplitl [HA]; · iapply (at_rest (homePA c XA) (cellPA c) (slotPA c) (flightPA c XA) 128 le_rfl); iexact HA
    isplitl [HB]; · iapply (at_rest (homePB c XB) (cellPB c) (slotPB c) (flightPB c XB) 128 le_rfl); iexact HB
    isplitl [H0]; · iexact H0
    isplitl [H1]; · iexact H1
    isplitl [H2]; · iexact H2
    isplitl [H3]; · iexact H3
    isplitl [H7]; · iexists _; iexact H7
    isplitl [H8]; · iexists _; iexact H8
    isplitl [H9]; · iexists _; iexact H9
    isplitl [H10]; · iexists _; iexact H10
    iexists _; iexact H11
  · iexact H6

end Body
end Cert.Proof.KI
end
-- ==== Proof.KI.Launch.lean ====
/-
  The launch: the two large arrays cut into their 128 blocks, the rings into their six slots, the body at the one grid
  point, and the host lines around the region; what every run ends with.
-/
module

public import proofs.«01_k».proof.Proof.KI.Body
public import proofs.«01_k».proof.Proof.Gen.KernelIdeal.Frame
public import Idealize.ShloMosaic.Lib.Pipeline.FrameSuffix
public import Idealize.ShloMosaic.Lib.Pipeline.Quiescent

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-! ## The kernel's own semaphores -/

/-- The twelve slots' cells: the first ring's six, then the second's. -/
abbrev osem : Fin 12 → SemLoc sig :=
  ![.dma (semA 0).sem, .dma (semA 1).sem, .dma (semA 2).sem, .dma (semA 3).sem, .dma (semA 4).sem, .dma (semA 5).sem,
    .dma (semB 0).sem, .dma (semB 1).sem, .dma (semB 2).sem, .dma (semB 3).sem, .dma (semB 4).sem, .dma (semB 5).sem]
theorem ownSemFacts : Pipeline.OwnSemFacts spec0 osem := by decide

omit [FloatOps F] [Named F] in
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
omit [FloatOps F] [Named F] in
theorem bigSep_twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), 1, 2, 3, 4, 5, 6, 7, 8, 9, 10, 11] (by decide) (by decide) Φ

omit [FloatOps F] [Named F] in
/-- The twelve cells at zero are the two rings' cells at zero. -/
theorem ownSems_split (c : Dev nD) :
    (Pipeline.ownSems0 (Ix := Unit) (Name := ℕ) (U := UU nD τ) (Lvl := ℕ) (Val := Elt F) (τ := τ) osem c : sProp 𝕄)
      ⊢ iprop(bigSep Finset.univ (cellPA c) ∗ bigSep Finset.univ (cellPB c)) := by
  unfold Pipeline.ownSems0
  rw [bigSep_twelve, bigSep_six, bigSep_six]
  iintro ⟨H0, H1, H2, H3, H4, H5, H6, H7, H8, H9, H10, H11⟩
  isplitl [H0 H1 H2 H3 H4 H5]
  · isplitl [H0]; · iexact H0
    isplitl [H1]; · iexact H1
    isplitl [H2]; · iexact H2
    isplitl [H3]; · iexact H3
    isplitl [H4]; · iexact H4
    iexact H5
  · isplitl [H6]; · iexact H6
    isplitl [H7]; · iexact H7
    isplitl [H8]; · iexact H8
    isplitl [H9]; · iexact H9
    isplitl [H10]; · iexact H10
    iexact H11
omit [FloatOps F] [Named F] in
theorem ownSems_join (c : Dev nD) :
    (iprop(bigSep Finset.univ (cellPA c) ∗ bigSep Finset.univ (cellPB c)) : sProp 𝕄)
      ⊢ Pipeline.ownSems0 (Ix := Unit) (Name := ℕ) (U := UU nD τ) (Lvl := ℕ) (Val := Elt F) (τ := τ) osem c := by
  unfold Pipeline.ownSems0
  rw [bigSep_twelve, bigSep_six, bigSep_six]
  iintro ⟨⟨H0, H1, H2, H3, H4, H5⟩, H6, H7, H8, H9, H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## Element sets -/

/-- The elements of block `b`, and of slot `s`. -/
abbrev blkSet (b : Fin 128) : Finset S8192x8192.Idx := (Rect.unit (s := S8192x8192) (blkOff b) S256x2048.size (blkOff_inb b)).set
abbrev slotSet (s : Fin 6) : Finset S6x256x2048.Idx := (Rect.unit (s := S6x256x2048) (slotOff s) S1x256x2048.size (slotOff_inb s)).set

omit [FloatOps F] [Named F] in
theorem blkA_set (b : Fin 128) : (blkA b).view.set = blkSet b := View.set_slice_whole _ _
omit [FloatOps F] [Named F] in
theorem blkB_set (b : Fin 128) : (blkB b).view.set = blkSet b := View.set_slice_whole _ _
omit [FloatOps F] [Named F] in
theorem slotA_set (s : Fin 6) : (slotA s).view.set = slotSet s := (View.set_reshape _ _).trans (View.set_slice_whole _ _)
omit [FloatOps F] [Named F] in
theorem slotB_set (s : Fin 6) : (slotB s).view.set = slotSet s := (View.set_reshape _ _).trans (View.set_slice_whole _ _)

/-- Element `(r, q)` is in block `r / 256 * 4 + q / 2048`. -/
theorem mem_blkSet (b : Fin 128) (y : S8192x8192.Idx) : y ∈ blkSet b ↔ (y 0).val / 256 * 4 + (y 1).val / 2048 = b.val := by
  rw [Rect.mem_set_unit]
  have h0 : (y 0).val < 8192 := (y 0).isLt
  have h1 : (y 1).val < 8192 := (y 1).isLt
  have hb := b.isLt
  constructor
  · intro H
    have a0 : b.val / 4 * 256 ≤ (y 0).val ∧ (y 0).val < b.val / 4 * 256 + 256 := H 0
    have a1 : b.val % 4 * 2048 ≤ (y 1).val ∧ (y 1).val < b.val % 4 * 2048 + 2048 := H 1
    omega
  · intro H i; fin_cases i
    · show b.val / 4 * 256 ≤ (y 0).val ∧ (y 0).val < b.val / 4 * 256 + 256; omega
    · show b.val % 4 * 2048 ≤ (y 1).val ∧ (y 1).val < b.val % 4 * 2048 + 2048; omega
theorem mem_slotSet (s : Fin 6) (y : S6x256x2048.Idx) : y ∈ slotSet s ↔ (y 0).val = s.val := by
  rw [Rect.mem_set_unit]
  have h1 : (y 1).val < 256 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 2048; omega
theorem blkSet_disjoint : ∀ b b' : Fin 128, b ≠ b' → Disjoint (blkSet b) (blkSet b') := by
  intro b b' hne; rw [Finset.disjoint_left]; intro y hy hy'; rw [mem_blkSet] at hy hy'; exact hne (Fin.ext (hy.symm.trans hy'))
theorem blkSet_cover : (Finset.univ : Finset (Fin 128)).biUnion blkSet = Finset.univ := by
  ext y; simp only [Finset.mem_biUnion, Finset.mem_univ, true_and, iff_true]
  have h0 : (y 0).val < 8192 := (y 0).isLt
  have h1 : (y 1).val < 8192 := (y 1).isLt
  exact ⟨⟨(y 0).val / 256 * 4 + (y 1).val / 2048, by omega⟩, by rw [mem_blkSet]⟩
theorem slotSet_disjoint : ∀ s s' : Fin 6, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 6)).biUnion slotSet = Finset.univ := by
  ext y; simp only [Finset.mem_biUnion, Finset.mem_univ, true_and, iff_true]; exact ⟨(y 0).cast (by decide), by rw [mem_slotSet]; rfl⟩

/-- `pos` whole is its blocks home; `neg` likewise. -/
theorem pos_eq (c : Dev nD) (X : Buf (Elt F) ((c : Thread nD τ).loc main_arg2)) :
    (((c : Thread nD τ).loc main_arg2) ↦{fullShare} X : sProp 𝕄) = bigSep Finset.univ (homePA c X) := by
  rw [Ring.pointsTo_blocks (ℓ := (c : Thread nD τ).loc main_arg2) blkSet blkSet_disjoint blkSet_cover]
  exact bigSep_congr fun b _ => by rw [← blkA_set]; rfl
theorem neg_eq (c : Dev nD) (X : Buf (Elt F) ((c : Thread nD τ).loc main_arg3)) :
    (((c : Thread nD τ).loc main_arg3) ↦{fullShare} X : sProp 𝕄) = bigSep Finset.univ (homePB c X) := by
  rw [Ring.pointsTo_blocks (ℓ := (c : Thread nD τ).loc main_arg3) blkSet blkSet_disjoint blkSet_cover]
  exact bigSep_congr fun b _ => by rw [← blkB_set]; rfl

omit [FloatOps F] [Named F] in
theorem slotPA_eq (c : Dev nD) (s : Fin 6) (f) : slotPA c s f = (((c : Thread nD τ).loc cc0_scoped0) ↦[slotSet s]{fullShare} f : sProp 𝕄) :=
  congrArg (fun S => (_ ↦[S]{fullShare} f : sProp 𝕄)) (slotA_set s)
omit [FloatOps F] [Named F] in
theorem slotPB_eq (c : Dev nD) (s : Fin 6) (f) : slotPB c s f = (((c : Thread nD τ).loc cc0_scoped2) ↦[slotSet s]{fullShare} f : sProp 𝕄) :=
  congrArg (fun S => (_ ↦[S]{fullShare} f : sProp 𝕄)) (slotB_set s)

/-- Each ring's buffer whole is its six slots, and back. -/
theorem ringA_split (c : Dev nD) :
    iprop(∃ f : Buf (Elt F) ((c : Thread nD τ).loc cc0_scoped0), ((c : Thread nD τ).loc cc0_scoped0) ↦{fullShare} f)
      ⊢ (bigSep Finset.univ (fun s : Fin 6 => iprop(∃ f, slotPA c s f)) : sProp 𝕄) := by
  iintro ⟨%f, H⟩
  ihave H2 := (Entails.of_eq (Ring.pointsTo_blocks (Ix := Unit) (Name := ℕ) (U := UU nD τ) (Lvl := ℕ) (q := fullShare) (ℓ := (c : Thread nD τ).loc cc0_scoped0) slotSet slotSet_disjoint slotSet_cover f)) $$ H
  have h : ∀ s : Fin 6, (((c : Thread nD τ).loc cc0_scoped0) ↦[slotSet s]{fullShare} f : sProp 𝕄) ⊢ iprop(∃ f, slotPA c s f) := fun s => by
    iintro H; iexists f; iapply (Entails.of_eq (slotPA_eq c s f).symm); iexact H
  iapply (show (bigSep Finset.univ (fun s : Fin 6 => ((c : Thread nD τ).loc cc0_scoped0) ↦[slotSet s]{fullShare} f) : sProp 𝕄)
      ⊢ bigSep Finset.univ (fun s : Fin 6 => iprop(∃ f, slotPA c s f)) from bigSep_mono fun s _ => h s)
  iexact H2
theorem ringB_split (c : Dev nD) :
    iprop(∃ f : Buf (Elt F) ((c : Thread nD τ).loc cc0_scoped2), ((c : Thread nD τ).loc cc0_scoped2) ↦{fullShare} f)
      ⊢ (bigSep Finset.univ (fun s : Fin 6 => iprop(∃ f, slotPB c s f)) : sProp 𝕄) := by
  iintro ⟨%f, H⟩
  ihave H2 := (Entails.of_eq (Ring.pointsTo_blocks (Ix := Unit) (Name := ℕ) (U := UU nD τ) (Lvl := ℕ) (q := fullShare) (ℓ := (c : Thread nD τ).loc cc0_scoped2) slotSet slotSet_disjoint slotSet_cover f)) $$ H
  have h : ∀ s : Fin 6, (((c : Thread nD τ).loc cc0_scoped2) ↦[slotSet s]{fullShare} f : sProp 𝕄) ⊢ iprop(∃ f, slotPB c s f) := fun s => by
    iintro H; iexists f; iapply (Entails.of_eq (slotPB_eq c s f).symm); iexact H
  iapply (show (bigSep Finset.univ (fun s : Fin 6 => ((c : Thread nD τ).loc cc0_scoped2) ↦[slotSet s]{fullShare} f) : sProp 𝕄)
      ⊢ bigSep Finset.univ (fun s : Fin 6 => iprop(∃ f, slotPB c s f)) from bigSep_mono fun s _ => h s)
  iexact H2
theorem ringA_join (c : Dev nD) :
    (bigSep Finset.univ (fun s : Fin 6 => iprop(∃ f, slotPA c s f)) : sProp 𝕄)
      ⊢ iprop(∃ f : Buf (Elt F) ((c : Thread nD τ).loc cc0_scoped0), ((c : Thread nD τ).loc cc0_scoped0) ↦{fullShare} f) := by
  rw [bigSep_congr fun s _ => (show iprop(∃ f, slotPA c s f) = (iprop(∃ f, ((c : Thread nD τ).loc cc0_scoped0) ↦[slotSet s]{fullShare} f) : sProp 𝕄) from by
    congr 1; funext f; exact slotPA_eq c s f)]
  exact Ring.pointsTo_blocks_join_exists (ℓ := (c : Thread nD τ).loc cc0_scoped0) slotSet slotSet_disjoint slotSet_cover (fun _ => Scalar.ofBits .f32 0x00000000#32)
theorem ringB_join (c : Dev nD) :
    (bigSep Finset.univ (fun s : Fin 6 => iprop(∃ f, slotPB c s f)) : sProp 𝕄)
      ⊢ iprop(∃ f : Buf (Elt F) ((c : Thread nD τ).loc cc0_scoped2), ((c : Thread nD τ).loc cc0_scoped2) ↦{fullShare} f) := by
  rw [bigSep_congr fun s _ => (show iprop(∃ f, slotPB c s f) = (iprop(∃ f, ((c : Thread nD τ).loc cc0_scoped2) ↦[slotSet s]{fullShare} f) : sProp 𝕄) from by
    congr 1; funext f; exact slotPB_eq c s f)]
  exact Ring.pointsTo_blocks_join_exists (ℓ := (c : Thread nD τ).loc cc0_scoped2) slotSet slotSet_disjoint slotSet_cover (fun _ => Scalar.ofBits .f32 0x00000000#32)

/-- A ring at rest, from its blocks home, its cells at zero and its buffer; and back. -/
theorem restA_intro (c : Dev nD) (X : Buf (Elt F) ((c : Thread nD τ).loc main_arg2)) :
    iprop((((c : Thread nD τ).loc main_arg2) ↦{fullShare} X) ∗ bigSep Finset.univ (cellPA c)
      ∗ ∃ f : Buf (Elt F) ((c : Thread nD τ).loc cc0_scoped0), ((c : Thread nD τ).loc cc0_scoped0) ↦{fullShare} f) ⊢ (restA c X : sProp 𝕄) := by
  rw [pos_eq]
  iintro ⟨Hh, Hc, Hs⟩
  unfold restA Ring.At₀
  isplitl [Hh]; · iexact Hh
  iapply (Entails.of_eq (bigSep_sep' Finset.univ (cellPA c) (fun s : Fin 6 => iprop(∃ f, slotPA c s f))).symm)
  isplitl [Hc]; · iexact Hc
  iapply (ringA_split c); iexact Hs
theorem restB_intro (c : Dev nD) (X : Buf (Elt F) ((c : Thread nD τ).loc main_arg3)) :
    iprop((((c : Thread nD τ).loc main_arg3) ↦{fullShare} X) ∗ bigSep Finset.univ (cellPB c)
      ∗ ∃ f : Buf (Elt F) ((c : Thread nD τ).loc cc0_scoped2), ((c : Thread nD τ).loc cc0_scoped2) ↦{fullShare} f) ⊢ (restB c X : sProp 𝕄) := by
  rw [neg_eq]
  iintro ⟨Hh, Hc, Hs⟩
  unfold restB Ring.At₀
  isplitl [Hh]; · iexact Hh
  iapply (Entails.of_eq (bigSep_sep' Finset.univ (cellPB c) (fun s : Fin 6 => iprop(∃ f, slotPB c s f))).symm)
  isplitl [Hc]; · iexact Hc
  iapply (ringB_split c); iexact Hs
theorem restA_elim (c : Dev nD) (X : Buf (Elt F) ((c : Thread nD τ).loc main_arg2)) :
    (restA c X : sProp 𝕄) ⊢ iprop((((c : Thread nD τ).loc main_arg2) ↦{fullShare} X) ∗ bigSep Finset.univ (cellPA c)
      ∗ ∃ f : Buf (Elt F) ((c : Thread nD τ).loc cc0_scoped0), ((c : Thread nD τ).loc cc0_scoped0) ↦{fullShare} f) := by
  rw [pos_eq]
  unfold restA Ring.At₀
  iintro ⟨Hh, Hf⟩
  ihave Hf := (Entails.of_eq (bigSep_sep' Finset.univ (cellPA c) (fun s : Fin 6 => iprop(∃ f, slotPA c s f)))) $$ Hf
  icases Hf with ⟨Hc, Hs⟩
  isplitl [Hh]; · iexact Hh
  isplitl [Hc]; · iexact Hc
  iapply (ringA_join c); iexact Hs
theorem restB_elim (c : Dev nD) (X : Buf (Elt F) ((c : Thread nD τ).loc main_arg3)) :
    (restB c X : sProp 𝕄) ⊢ iprop((((c : Thread nD τ).loc main_arg3) ↦{fullShare} X) ∗ bigSep Finset.univ (cellPB c)
      ∗ ∃ f : Buf (Elt F) ((c : Thread nD τ).loc cc0_scoped2), ((c : Thread nD τ).loc cc0_scoped2) ↦{fullShare} f) := by
  rw [neg_eq]
  unfold restB Ring.At₀
  iintro ⟨Hh, Hf⟩
  ihave Hf := (Entails.of_eq (bigSep_sep' Finset.univ (cellPB c) (fun s : Fin 6 => iprop(∃ f, slotPB c s f)))) $$ Hf
  icases Hf with ⟨Hc, Hs⟩
  isplitl [Hh]; · iexact Hh
  isplitl [Hc]; · iexact Hc
  iapply (ringB_join c); iexact Hs

omit [FloatOps F] [Named F] in
/-- A whole scratch buffer held as a memref is the buffer held. -/
theorem holds_whole (c : Dev nD) (b : Ref sig .tc) (f : Buf (Elt F) ((c : Thread nD τ).loc b)) :
    (((Memref.whole b).view.loc (c : Thread nD τ) ↦[(Memref.whole b).view.set]{fullShare} f) : sProp 𝕄) = (((c : Thread nD τ).loc b) ↦{fullShare} f) := by
  rw [(Memref.isWhole_whole b).set_eq_univ]
omit [FloatOps F] [Named F] in
theorem scratch_eq (c : Dev nD) (b : Ref sig .tc) :
    (iprop(∃ f, ((Memref.whole b).view.loc (c : Thread nD τ) ↦[(Memref.whole b).view.set]{fullShare} f)) : sProp 𝕄)
      = iprop(∃ f : Buf (Elt F) ((c : Thread nD τ).loc b), ((c : Thread nD τ).loc b) ↦{fullShare} f) := by
  congr 1; funext f; exact holds_whole c b f
omit [FloatOps F] [Named F] in
theorem scratch_m7 (c : Dev nD) : (iprop(∃ f, holds c m7 f) : sProp 𝕄)
    = iprop(∃ f : Buf (Elt F) ((c : Thread nD τ).loc cc0_scratch0), ((c : Thread nD τ).loc cc0_scratch0) ↦{fullShare} f) := scratch_eq c cc0_scratch0
omit [FloatOps F] [Named F] in
theorem scratch_m8 (c : Dev nD) : (iprop(∃ f, holds c m8 f) : sProp 𝕄)
    = iprop(∃ f : Buf (Elt F) ((c : Thread nD τ).loc cc0_scratch1), ((c : Thread nD τ).loc cc0_scratch1) ↦{fullShare} f) := scratch_eq c cc0_scratch1
omit [FloatOps F] [Named F] in
theorem scratch_m9 (c : Dev nD) : (iprop(∃ f, holds c m9 f) : sProp 𝕄)
    = iprop(∃ f : Buf (Elt F) ((c : Thread nD τ).loc cc0_scratch2), ((c : Thread nD τ).loc cc0_scratch2) ↦{fullShare} f) := scratch_eq c cc0_scratch2
omit [FloatOps F] [Named F] in
theorem scratch_m10 (c : Dev nD) : (iprop(∃ f, holds c m10 f) : sProp 𝕄)
    = iprop(∃ f : Buf (Elt F) ((c : Thread nD τ).loc cc0_scratch3), ((c : Thread nD τ).loc cc0_scratch3) ↦{fullShare} f) := scratch_eq c cc0_scratch3
omit [FloatOps F] [Named F] in
theorem scratch_m11 (c : Dev nD) : (iprop(∃ f, holds c m11 f) : sProp 𝕄)
    = iprop(∃ f : Buf (Elt F) ((c : Thread nD τ).loc cc0_scratch4), ((c : Thread nD τ).loc cc0_scratch4) ↦{fullShare} f) := scratch_eq c cc0_scratch4

section Launch

variable (m : (ℓ : Loc nD τ sig) → Buf (Elt F) ℓ) (ρ : Dev nD → PrngReg)

/-! ## The pipeline's proof data -/

/-- The region invariant, the same before and after the one point. -/
def Φ (c : Dev nD) : sProp 𝕄 :=
  iprop(restA c (V m c main_arg2) ∗ restB c (V m c main_arg3)
    ∗ (∃ f, holds c m7 f) ∗ (∃ f, holds c m8 f) ∗ (∃ f, holds c m9 f) ∗ (∃ f, holds c m10 f) ∗ (∃ f, holds c m11 f) ∗ (∃ r, prngReg c r))

abbrev st0 (t : Fin cfg0.N) : Memref sig .tc .vmem S8192x64 .f32 := win0_0.stage (cfg0.slots t 0)
abbrev st1 (t : Fin cfg0.N) : Memref sig .tc .vmem S8192x64 .f32 := win0_1.stage (cfg0.slots t 1)
abbrev st2 (t : Fin cfg0.N) : Memref sig .tc .vmem S64x64 .f32 := win0_2.stage (cfg0.slots t 2)
abbrev st3 (t : Fin cfg0.N) : Memref sig .tc .vmem S1x64 .f32 := win0_3.stage (cfg0.slots t 3)
abbrev st4 (t : Fin cfg0.N) : Memref sig .tc .smem S1x1 .f32 := win0_4.stage (cfg0.slots t 4)

/-- The word the body leaves as the result. -/
def outAt (c : Dev nD) (t : Fin cfg0.N) : F .f32 :=
  outAB c (V m c main_arg2) (V m c main_arg3) (iblk m c 0 t) (iblk m c 1 t) (iblk m c 2 t) (iblk m c 3 t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => outAt m c t
  Φ _ := Φ m c
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = fun _ => outAt m c t := by dsimp only [dats]
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) (st3 t) (hstage0_3 0) (st4 t) (hstage0_4 0) :=
  (congrFun defs_tc _).trans rfl

set_option backward.isDefEq.respectTransparency.types false in
/-- The body at its point: from the inputs' blocks in their staging buffers to those and the result's word. -/
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HA, HB, H7, H8, H9, H10, H11, Hr⟩, ⟨%W, -, HW⟩, ⟨%d0, %g0, %hg0, H0⟩, ⟨%d1, %g1, %hg1, H1⟩, ⟨%d2, %g2, %hg2, H2⟩, ⟨%d3, %g3, %hg3, H3⟩, ⟨%d4, %g4, -, H4⟩⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  rw [hg0, hg1, hg2, hg3]
  sl_rw [prog_eq t]
  iapply (bodyRun c (V m c main_arg2) (V m c main_arg3) (st0 t) (hstage0_0 0) (st1 t) (hstage0_1 0) (st2 t) (hstage0_2 0) (st3 t) (hstage0_3 0)
    (st4 t) (hstage0_4 0) (iblk m c 0 t) (iblk m c 1 t) (iblk m c 2 t) (iblk m c 3 t) g4)
  unfold Around
  isplitl [HW HA HB H0' H1' H2' H3' H7 H8 H9 H10 H11 H4]
  · isplitr [H4]
    · isplitl [HW]; · iexists W; iexact HW
      isplitl [HA]; · iexact HA
      isplitl [HB]; · iexact HB
      isplitl [H0']; · iexact H0'
      isplitl [H1']; · iexact H1'
      isplitl [H2']; · iexact H2'
      isplitl [H3']; · iexact H3'
      isplitl [H7]; · iexact H7
      isplitl [H8]; · iexact H8
      isplitl [H9]; · iexact H9
      isplitl [H10]; · iexact H10
      iexact H11
    · iexact H4
  · iintro ⟨⟨⟨%W', HW⟩, HA, HB, H0, H1, H2, H3, H7, H8, H9, H10, H11⟩, H4⟩
    isplitl [HA HB H7 H8 H9 H10 H11 Hr]
    · isplitl [HA]; · iexact HA
      isplitl [HB]; · iexact HB
      isplitl [H7]; · iexact H7
      isplitl [H8]; · iexact H8
      isplitl [H9]; · iexact H9
      isplitl [H10]; · iexact H10
      isplitl [H11]; · iexact H11
      iexact Hr
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists _; isplitr; · ipureintro; exact View.read_rep _ _
    iexact H4

/-! ## The run -/

/-- The large arrays, which the kernel moves itself. -/
abbrev HH : Finset (Ref sig .tc) := {main_arg2, main_arg3}
theorem HH_sub : HH ⊆ Pipeline.restRefs sig spec0 := by
  intro b hb
  simp only [HH, Finset.mem_insert, Finset.mem_singleton] at hb
  rcases hb with rfl | rfl <;> exact Pipeline.mem_restRefs_of _ (by decide) (by decide)
omit [FloatOps F] [Named F] in
theorem bigSep_HH (Ψ : Ref sig .tc → sProp 𝕄) : bigSep HH Ψ = iprop(Ψ main_arg2 ∗ Ψ main_arg3) := by
  unfold HH; rw [bigSep_insert (by decide), bigSep_singleton]; rfl

theorem tail_sub : ∀ ops ∈ ([hostOps1] : List (List (HloOp τ sig (Elt F)))), ∀ op ∈ ops,
    op.bufs ⊆ Pipeline.tailRefsBut sig Pipeline.Prefetch.none spec0 HH := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  subst hop
  intro b hb
  simp only [HH, Finset.mem_insert, Finset.mem_singleton] at hb
  rw [StableHlo.TRef.reshape, StableHlo.reshape_bufs, Finset.mem_insert, Finset.mem_singleton]
  rcases hb with rfl | rfl
  · exact not_or.mpr ⟨StableHlo.devRef_ne_of_ne (by decide), StableHlo.devRef_ne_of_ne (by decide)⟩
  · exact not_or.mpr ⟨StableHlo.devRef_ne_of_ne (by decide), StableHlo.devRef_ne_of_ne (by decide)⟩

/-- The invariant from what the launch hands over. -/
theorem phi_in (c : Dev nD) : (Pipeline.ΦD osem spec0 HH (V m) c : sProp 𝕄) ⊢ Φ m c := by
  rw [Pipeline.ΦD_eq, scopedRest0_eq, bigSep_HH]
  unfold Φ
  rw [scratch_m7, scratch_m8, scratch_m9, scratch_m10, scratch_m11]
  iintro ⟨⟨H7, H8, HA, HB, H9, H10, H11⟩, Hr, Hs, Hp, Hn⟩
  ihave Hs := (ownSems_split c) $$ Hs
  icases Hs with ⟨HsA, HsB⟩
  isplitl [Hp HsA HA]
  · iapply (restA_intro c)
    isplitl [Hp]; · iexact Hp
    isplitl [HsA]; · iexact HsA
    iexact HA
  isplitl [Hn HsB HB]
  · iapply (restB_intro c)
    isplitl [Hn]; · iexact Hn
    isplitl [HsB]; · iexact HsB
    iexact HB
  isplitl [H7]; · iexact H7
  isplitl [H8]; · iexact H8
  isplitl [H9]; · iexact H9
  isplitl [H10]; · iexact H10
  isplitl [H11]; · iexact H11
  iexact Hr
/-- And back. -/
theorem phi_out (c : Dev nD) : Φ m c ⊢ (Pipeline.ΦD osem spec0 HH (V m) c : sProp 𝕄) := by
  rw [Pipeline.ΦD_eq, scopedRest0_eq, bigSep_HH]
  unfold Φ
  rw [scratch_m7, scratch_m8, scratch_m9, scratch_m10, scratch_m11]
  iintro ⟨HA, HB, H7, H8, H9, H10, H11, Hr⟩
  ihave HA := (restA_elim c _) $$ HA
  ihave HB := (restB_elim c _) $$ HB
  icases HA with ⟨Hp, HsA, HA⟩
  icases HB with ⟨Hn, HsB, HB⟩
  isplitl [H7 H8 HA HB H9 H10 H11]
  · isplitl [H7]; · iexact H7
    isplitl [H8]; · iexact H8
    isplitl [HA]; · iexact HA
    isplitl [HB]; · iexact HB
    isplitl [H9]; · iexact H9
    isplitl [H10]; · iexact H10
    iexact H11
  isplitl [Hr]; · iexact Hr
  isplitl [HsA HsB]
  · iapply (ownSems_join c)
    isplitl [HsA]; · iexact HsA
    iexact HsB
  isplitl [Hp]; · iexact Hp
  iexact Hn

set_option backward.isDefEq.respectTransparency.types false in
/-- Every weakly fair execution terminates with the arrays as the pipeline leaves them, every other buffer as the host
    lines leave it, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem defs₀ 𝒱₀ ownSemFacts HH HH_sub m ρ main
    (hbody := fun c => (body_obligation m c).loose) (hshare := fun c => (dats m 0 c).share_full fun _ => rfl)
    (howed := fun _ _ => rfl) (V₀ := V0 m) (opss := [hostOps1])
    (hsub := tail_sub) (hfresh := sfx_fresh) (hkeep := sfx_keeps)
    (hmain := Pipeline.hmain_around cfgs 0 defs₀ 𝒱₀ m main [hostOps0] [hostOps1] (by simp only [List.Forall]; exact hostOps0_sub)
      (by simp only [List.Forall]; exact hostOps0_fresh) main_chain)
    (hA := fun _ _ => rfl)
    (hin := phi_in m) (hout := phi_out m)
    (Q' := _) (hQ' := fun _ h => h)

end Launch

end Cert.Proof.KI

end
-- ==== Proof.KI.Frame.lean ====
/-
  The frame: from any memory every execution ends, the arguments are as they were, and every semaphore is at zero.
-/
module

public import proofs.«01_k».proof.Proof.KI.Launch

@[expose] public section

noncomputable section

namespace Cert.Proof.KI

open Cert.KernelIdeal Cert.KernelIdeal.Gen
open Idealize.ShloMosaic Idealize.ShloMosaic.TcCoe Idealize.ShloMosaic.Tactic
open Idealize.SL Idealize.SL.Sem

variable {F : FTy → Type} [FloatOps F] [Named F]
variable (m : (ℓ : Loc nD τ sig) → Buf (Elt F) ℓ) (ρ : Dev nD → PrngReg)

/-- A buffer that is no window's array, other than the result, ends as the region found it. -/
theorem tail_keep (c : Dev nD) (b : Ref sig .tc) (hb : b ≠ main_v0) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

/-- What a run that ends as the launch says leaves in the arguments. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans (V_main_arg0 m c)),
    ((h c).1 1).trans (((dats m 0 c).arrAt_in 1 rfl _).trans (V_main_arg1 m c)),
    ((h c).2 main_arg2 (Pipeline.mem_restRefs_of main_arg2 (by decide) (by decide))).trans
      ((tail_keep m c main_arg2 (by decide) (by decide)).trans (V_main_arg2 m c)),
    ((h c).2 main_arg3 (Pipeline.mem_restRefs_of main_arg3 (by decide) (by decide))).trans
      ((tail_keep m c main_arg3 (by decide) (by decide)).trans (V_main_arg3 m c)),
    ((h c).1 2).trans (((dats m 0 c).arrAt_in 2 rfl _).trans (V_main_arg4 m c)),
    ((h c).2 main_arg5 (Pipeline.mem_restRefs_of main_arg5 (by decide) (by decide))).trans
      ((tail_keep m c main_arg5 (by decide) (by decide)).trans (V_main_arg5 m c))⟩

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_kept m r h.1, h.2⟩) (run_main m ρ)

end Cert.Proof.KI

end
-- ==== Proof.Claims.lean ====
/- The frames of the three programs and the one named constant, each in the form the certificate states. -/
module

public import proofs.«01_k».proof.Defs
public import proofs.«01_k».proof.Proof.K.Frame
public import proofs.«01_k».proof.Proof.KI.Frame
public import proofs.«01_k».proof.Proof.Gen.ReferenceIdeal.Run
public import Idealize.ShloMosaic.Lib.Quiescent

@[expose] public section

noncomputable section

namespace Cert.Proof

open Idealize.ShloMosaic Idealize.SL.Sem

/-- The kernel as printed runs, leaves its arguments and ends with every counter at zero. -/
theorem frame_kernel : Cert.quiescent_Kernel := fun m ρ _ => K.frame m ρ

/-- The same of the kernel at the ideal instance. -/
theorem frame_kernelIdeal : Cert.quiescent_KernelIdeal := fun m ρ _ => KI.frame m ρ

/-- The reference, which has no semaphores, runs and leaves its arguments. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's factor is, at the ideal instance, twice the inverse of the natural logarithm of two. -/
theorem named_factor : Cert.preserves_Kernel_KernelIdeal :=
  IdealRules.named_const.statement Cert.KernelIdeal.κ "two_log2e" .f32 0x4038AA3B#32 ((2 * (Real.log 2)⁻¹ : ℝ) : EReal) rfl

end Cert.Proof

end
-- ==== Proof.KI.Result.lean ====
/-
  What a run leaves in the result: the word the last trip stores, as a function of the arguments.
-/
module

public import proofs.«01_k».proof.Proof.KI.Frame

@[expose] public section

noncomputable section

namespace Cert.Proof.KI

open Cert.KernelIdeal Cert.KernelIdeal.Gen
open Idealize.ShloMosaic Idealize.ShloMosaic.TcCoe Idealize.ShloMosaic.Tactic
open Idealize.SL Idealize.SL.Sem

variable {F : FTy → Type} [FloatOps F] [Named F]
variable (m : (ℓ : Loc nD τ sig) → Buf (Elt F) ℓ) (ρ : Dev nD → PrngReg)

/-- The arguments on core `c`, as vectors. -/
abbrev aV1 (c : Dev nD) : Vec F S8192x64 .f32 := m ((c : Thread nD τ).loc main_arg0)
abbrev aV2 (c : Dev nD) : Vec F S8192x64 .f32 := m ((c : Thread nD τ).loc main_arg1)
abbrev aPos (c : Dev nD) : Vec F S8192x8192 .f32 := m ((c : Thread nD τ).loc main_arg2)
abbrev aNeg (c : Dev nD) : Vec F S8192x8192 .f32 := m ((c : Thread nD τ).loc main_arg3)
abbrev aW (c : Dev nD) : Vec F S64x64 .f32 := m ((c : Thread nD τ).loc main_arg4)
abbrev aB (c : Dev nD) : Vec F S64 .f32 := m ((c : Thread nD τ).loc main_arg5)
/-- The bias as the host's reshape hands it to the kernel. -/
abbrev aB2 (c : Dev nD) : Vec F S1x64 .f32 := shapeCast S1x64 (aB m c) shapeCasts_S64_S1x64

theorem V_bias (c : Dev nD) : V m c main_call0_v0 = aB2 m c := by
  show StableHlo.after (List.flatten [hostOps0]) (fun b => m (c, b)) (Proc.devRef .tc main_call0_v0) = _
  simp only [hostOps0, List.flatten_cons, List.flatten_nil, List.append_nil, StableHlo.after_cons, StableHlo.after_nil]
  exact StableHlo.reshape_result' _ _ _ _ _

theorem iblk_0 (c : Dev nD) (t : Fin cfg0.N) : iblk m c 0 t = aV1 m c := by
  rw [fin_N0 t]; funext i; unfold iblk; rw [View.read_apply];
  refine Eq.trans ?_ (congrFun (V_main_arg0 m c) i)
  exact congrArg (V m c main_arg0) (funext fun a => Fin.ext (by
    refine (Pipeline.Window.rect_emb_val win0_0 t0_0 i a rfl).trans ?_
    fin_cases a <;> exact Nat.zero_add _))
theorem iblk_1 (c : Dev nD) (t : Fin cfg0.N) : iblk m c 1 t = aV2 m c := by
  rw [fin_N0 t]; funext i; unfold iblk; rw [View.read_apply];
  refine Eq.trans ?_ (congrFun (V_main_arg1 m c) i)
  exact congrArg (V m c main_arg1) (funext fun a => Fin.ext (by
    refine (Pipeline.Window.rect_emb_val win0_1 t0_0 i a rfl).trans ?_
    fin_cases a <;> exact Nat.zero_add _))
theorem iblk_2 (c : Dev nD) (t : Fin cfg0.N) : iblk m c 2 t = aW m c := by
  rw [fin_N0 t]; funext i; unfold iblk; rw [View.read_apply];
  refine Eq.trans ?_ (congrFun (V_main_arg4 m c) i)
  exact congrArg (V m c main_arg4) (funext fun a => Fin.ext (by
    refine (Pipeline.Window.rect_emb_val win0_2 t0_0 i a rfl).trans ?_
    fin_cases a <;> exact Nat.zero_add _))
theorem iblk_3 (c : Dev nD) (t : Fin cfg0.N) : iblk m c 3 t = aB2 m c := by
  rw [fin_N0 t]; funext i; unfold iblk; rw [View.read_apply];
  refine Eq.trans ?_ (congrFun (V_bias m c) i)
  exact congrArg (V m c main_call0_v0) (funext fun a => Fin.ext (by
    refine (Pipeline.Window.rect_emb_val win0_3 t0_0 i a rfl).trans ?_
    fin_cases a <;> exact Nat.zero_add _))

/-- The result's word as a function of the arguments. -/
def resultWord (c : Dev nD) : F .f32 :=
  outV (z1V (aW m c) (aB2 m c) (aV1 m c)) (z2V (aW m c) (aB2 m c) (aV2 m c)) (aPos m c) (aNeg m c)

theorem outAt_eq (c : Dev nD) (t : Fin cfg0.N) : outAt m c t = resultWord m c := by
  unfold outAt outAB
  rw [iblk_0, iblk_1, iblk_2, iblk_3, V_main_arg2, V_main_arg3]
  rfl

/-- The pipeline leaves that word in its result array. -/
theorem arr4 (c : Dev nD) : (dats m 0 c).arrAt 4 cfg0.N = fun _ => resultWord m c := by
  funext i
  refine (dats m 0 c).arrAt_forall_of_cover 4 (fun _ v => v = resultWord m c) (fun t _ y => ?_) (fun i => ⟨t0_0, flush0_4 _, ?_⟩) i
  · exact (outAt_eq m c t)
  · refine Finset.mem_map.mpr ⟨i, Finset.mem_univ _, funext fun a => Fin.ext ?_⟩
    refine (Pipeline.Window.rect_emb_val win0_4 t0_0 i a rfl).trans ?_
    fin_cases a <;> exact Nat.zero_add _

/-- And the last host line leaves it in the result. -/
theorem tail_result (c : Dev nD) : Pipeline.afterTail₀ cfgs (dats m) 0 (V0 m) [hostOps1] c main_v0 = fun _ => resultWord m c := by
  unfold Pipeline.afterTail₀
  simp only [hostOps1, List.flatten_cons, List.flatten_nil, List.append_nil, StableHlo.after_cons, StableHlo.after_nil]
  refine (StableHlo.reshape_result' _ _ _ _ _).trans ?_
  funext i
  have e := Pipeline.withArrays_arr spec0 launch0.win.arr_inj c (V0 m c) (fun w => (dats m 0 c).arrAt w cfg0.N) 4
  rw [arr4] at e
  exact congrFun e _

/-- Every execution ends with that word in the result, and the arguments as they were. -/
theorem run_value : θ_run defs (onTc (τ := τ) (main (F := F))) ⟨m, fun _ => 0, ρ⟩ (fun r => ∀ c : Dev nD,
      r.2.mem ((c.tc : Thread nD τ).loc main_v0) = (fun _ => resultWord m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).2 main_v0 (Pipeline.mem_restRefs_of main_v0 (by decide) (by decide))).trans (tail_result m c),
    args_kept m r h.1 c⟩) (run_main m ρ)

end Cert.Proof.KI

end
-- ==== Proof.Value.Scalar.lean ====
/-
  The arithmetic on extended reals that the two programs share: the activation, the similarity of two rows, and the loss of
  the two sums.
-/
module

public import Idealize.ShloMosaic.PureOps.Ideal
public import Idealize.ShloMosaic.PureOps.Ideal.Laws
public import Idealize.ShloMosaic.Lib.IdealHost
public import Idealize.ShloMosaic.Lib.Pointwise

@[expose] public section

noncomputable section

namespace Cert.Proof.Loss

open Idealize.ShloMosaic

/-- The bits of one half denote one half. -/
theorem half_bits : Ideal.ofBits .f32 0x3F000000#32 = (((1 : ℝ) / 2 : ℝ) : EReal) := by
  simp [Ideal.ofBits, Ideal.ieee, -EReal.coe_mul]; norm_num

/-- The bits of plus infinity denote the top. -/
theorem inf_bits : Ideal.ofBits .f32 0x7F800000#32 = (⊤ : EReal) := by
  simp [Ideal.ofBits, Ideal.ieee]

/-- The activation: the identity above zero, one less than the exponential elsewhere. -/
def elu (x : EReal) : EReal := if 0 < x then x else Ideal.exp x - 1

/-- The activation vanishes only at zero. -/
theorem elu_ne_zero {x : EReal} (h : x ≠ 0) : elu x ≠ 0 := by
  unfold elu
  split_ifs with hx
  · exact hx.ne'
  · have hlt : x < 0 := lt_of_le_of_ne (not_lt.mp hx) h
    induction x with
    | bot =>
      show (0 : EReal) - 1 ≠ 0
      simp
    | top => exact absurd hlt (by simp)
    | coe r =>
      have hr : r < 0 := by exact_mod_cast hlt
      have h1 : Real.exp r - 1 ≠ 0 := by
        have := Real.exp_lt_exp.mpr hr
        rw [Real.exp_zero] at this
        linarith
      show ((Real.exp r : ℝ) : EReal) - 1 ≠ 0
      rw [show (1 : EReal) = ((1 : ℝ) : EReal) from rfl, ← EReal.coe_sub]
      exact_mod_cast h1

/-- Row `r` of the affine map: entry `d` is the product of row `r` of the array with row `d` of the weights, plus entry `d` of
    the bias. -/
def lin (W : (⟨2, ![64, 64]⟩ : Shape).Idx → EReal) (b : Fin 64 → EReal) (V : (⟨2, ![8192, 64]⟩ : Shape).Idx → EReal) (r : Fin 8192) (d : Fin 64) : EReal :=
  ∑ x, V (ix2 r x) * W (ix2 d x) + b d

/-- Row `r` of the projection. -/
def proj (W : (⟨2, ![64, 64]⟩ : Shape).Idx → EReal) (b : Fin 64 → EReal) (V : (⟨2, ![8192, 64]⟩ : Shape).Idx → EReal) (r : Fin 8192) (d : Fin 64) : EReal :=
  elu (lin W b V r d)

/-- A square is nonnegative. -/
theorem sq_nonneg' (x : EReal) : 0 ≤ x * x := by
  induction x with
  | bot => simp
  | top => simp
  | coe r => exact_mod_cast mul_self_nonneg r

/-- The square of a value that is not zero is positive. -/
theorem sq_pos' {x : EReal} (h : x ≠ 0) : 0 < x * x := by
  induction x with
  | bot => simp
  | top => simp
  | coe r =>
    have : r ≠ 0 := by exact_mod_cast h
    exact_mod_cast mul_self_pos.mpr this

/-- The sum of the squares of a row. -/
def sq {n : ℕ} (z : Fin n → EReal) : EReal := ∑ d, z d * z d

theorem sq_nonneg {n : ℕ} (z : Fin n → EReal) : 0 ≤ sq z := Finset.sum_nonneg fun d _ => sq_nonneg' (z d)

theorem sq_pos {n : ℕ} {z : Fin n → EReal} {d : Fin n} (h : z d ≠ 0) : 0 < sq z :=
  lt_of_lt_of_le (sq_pos' h) (Finset.single_le_sum (f := fun d => z d * z d) (fun d _ => sq_nonneg' (z d)) (Finset.mem_univ d))

/-- A row with a positive sum of squares has an entry that is not zero. -/
theorem exists_ne_zero {n : ℕ} {z : Fin n → EReal} (h : 0 < sq z) : ∃ d, z d ≠ 0 := by
  by_contra hc
  push Not at hc
  refine h.ne' (Finset.sum_eq_zero fun d _ => by rw [hc d, mul_zero])

/-- The activated row of a row that is not zero is not zero. -/
theorem sq_elu_pos {n : ℕ} {x : Fin n → EReal} (h : 0 < sq x) : 0 < sq fun d => elu (x d) :=
  let ⟨_, hd⟩ := exists_ne_zero h
  sq_pos (elu_ne_zero hd)

/-- A row with an infinite entry has an infinite sum of squares. -/
theorem sq_top {n : ℕ} {z : Fin n → EReal} {d : Fin n} (h : z d = ⊤ ∨ z d = ⊥) : sq z = ⊤ := by
  refine top_le_iff.mp (le_trans (le_of_eq ?_)
    (Finset.single_le_sum (f := fun d => z d * z d) (fun d _ => sq_nonneg' (z d)) (Finset.mem_univ d)))
  rcases h with h | h <;> simp [h]

/-- A row whose sum of squares is finite is a row of reals. -/
theorem exists_real {n : ℕ} {z : Fin n → EReal} (h : sq z ≠ ⊤) : ∃ r : Fin n → ℝ, z = fun d => ((r d : ℝ) : EReal) := by
  have hz : ∀ d, z d ≠ ⊤ ∧ z d ≠ ⊥ := fun d => ⟨fun e => h (sq_top (Or.inl e)), fun e => h (sq_top (Or.inr e))⟩
  exact ⟨fun d => (z d).toReal, funext fun d => (EReal.coe_toReal (hz d).1 (hz d).2).symm⟩

theorem sqrt_coe_pos {r : ℝ} (h : 0 < r) : Ideal.sqrt (r : EReal) = ((Real.sqrt r : ℝ) : EReal) := by
  show (if r < 0 then (⊥ : EReal) else (Real.sqrt r : EReal)) = _
  rw [if_neg h.not_gt]

theorem rsqrt_coe_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg h.not_gt, if_neg h.ne']

theorem sqrt_pos {x : EReal} (h : 0 < x) : 0 < Ideal.sqrt x := by
  induction x with
  | bot => simp at h
  | top => exact EReal.zero_lt_top
  | coe r =>
    have hr : 0 < r := by exact_mod_cast h
    rw [sqrt_coe_pos hr]
    exact_mod_cast Real.sqrt_pos.mpr hr

/-- Twice the inverse of the logarithm of two: the factor that turns the exponential of twice a number into a power of two. -/
def kap : EReal := ((2 * (Real.log 2)⁻¹ : ℝ) : EReal)

/-- The similarity as the kernel computes it: each row times the inverse of its norm, the first also times the factor, and two
    to the power of their product. -/
def simK {n : ℕ} (z w : Fin n → EReal) : EReal :=
  Ideal.exp2 (∑ d, (z d * (Ideal.rsqrt (sq z) * kap)) * (w d * Ideal.rsqrt (sq w)))

/-- The similarity as the reference states it: the exponential of the cosine over one half. -/
def simR {n : ℕ} (z w : Fin n → EReal) : EReal :=
  Ideal.exp (Ideal.div (Ideal.div (∑ d, z d * w d) (Ideal.sqrt (sq z) * Ideal.sqrt (sq w))) (((1 : ℝ) / 2 : ℝ) : EReal))

theorem div_top_any (x : EReal) : Ideal.div x ⊤ = 0 := by
  simp [Ideal.div]

theorem div_coe' {x y : ℝ} (h : y ≠ 0) : Ideal.div (x : EReal) (y : EReal) = ((x * y⁻¹ : ℝ) : EReal) := by
  unfold Ideal.div
  rw [if_neg (by exact_mod_cast h), ← EReal.coe_inv, ← EReal.coe_mul]

theorem div_zero_half : Ideal.div 0 (((1 : ℝ) / 2 : ℝ) : EReal) = 0 := by
  unfold Ideal.div
  rw [if_neg (by exact_mod_cast (by norm_num : (1 : ℝ) / 2 ≠ 0)), zero_mul]

theorem exp_zero' : Ideal.exp 0 = ((1 : ℝ) : EReal) := by
  show ((Real.exp 0 : ℝ) : EReal) = _
  rw [Real.exp_zero]

theorem exp2_zero' : Ideal.exp2 0 = ((1 : ℝ) : EReal) := by
  show ((Real.rpow 2 0 : ℝ) : EReal) = _
  rw [show Real.rpow 2 0 = 1 from Real.rpow_zero 2]

/-- Where a norm is infinite the reference's similarity is one. -/
theorem simR_top {n : ℕ} {z w : Fin n → EReal} (hz : 0 < sq z) (hw : 0 < sq w) (h : sq z = ⊤ ∨ sq w = ⊤) :
    simR z w = ((1 : ℝ) : EReal) := by
  have e : Ideal.sqrt (sq z) * Ideal.sqrt (sq w) = ⊤ := by
    rcases h with h | h
    · rw [h]; exact EReal.top_mul_of_pos (sqrt_pos hw)
    · rw [h]; exact EReal.mul_top_of_pos (sqrt_pos hz)
  unfold simR
  rw [e, div_top_any, div_zero_half, exp_zero']

/-- Where a norm is infinite the kernel's similarity is one. -/
theorem simK_top {n : ℕ} {z w : Fin n → EReal} (h : sq z = ⊤ ∨ sq w = ⊤) : simK z w = ((1 : ℝ) : EReal) := by
  unfold simK
  rw [Finset.sum_eq_zero, exp2_zero']
  intro d _
  rcases h with h | h
  · rw [h, show Ideal.rsqrt ⊤ = 0 from rfl, zero_mul, mul_zero, zero_mul]
  · rw [h, show Ideal.rsqrt ⊤ = 0 from rfl, mul_zero, mul_zero]

theorem coe_sum' {n : ℕ} (f : Fin n → ℝ) : ∑ d, ((f d : ℝ) : EReal) = ((∑ d, f d : ℝ) : EReal) := by
  induction (Finset.univ : Finset (Fin n)) using Finset.induction_on with
  | empty => simp
  | insert a s ha ih => rw [Finset.sum_insert ha, Finset.sum_insert ha, ih, EReal.coe_add]

/-- On rows of reals that are not zero both are the exponential of twice the cosine. -/
theorem sim_real {n : ℕ} (r s : Fin n → ℝ) (hr : 0 < ∑ d, r d * r d) (hs : 0 < ∑ d, s d * s d) :
    simK (fun d => (r d : EReal)) (fun d => (s d : EReal))
        = ((Real.exp (2 * ((∑ d, r d * s d) / (Real.sqrt (∑ d, r d * r d) * Real.sqrt (∑ d, s d * s d)))) : ℝ) : EReal)
      ∧ simR (fun d => (r d : EReal)) (fun d => (s d : EReal))
        = ((Real.exp (2 * ((∑ d, r d * s d) / (Real.sqrt (∑ d, r d * r d) * Real.sqrt (∑ d, s d * s d)))) : ℝ) : EReal) := by
  have qr : sq (fun d => (r d : EReal)) = ((∑ d, r d * r d : ℝ) : EReal) := by
    unfold sq; rw [← coe_sum']; exact Finset.sum_congr rfl fun d _ => (EReal.coe_mul _ _).symm
  have qs : sq (fun d => (s d : EReal)) = ((∑ d, s d * s d : ℝ) : EReal) := by
    unfold sq; rw [← coe_sum']; exact Finset.sum_congr rfl fun d _ => (EReal.coe_mul _ _).symm
  have pr := Real.sqrt_pos.mpr hr
  have ps := Real.sqrt_pos.mpr hs
  constructor
  · unfold simK
    rw [qr, qs]
    simp only [rsqrt_coe_pos hr, rsqrt_coe_pos hs, kap, mul_one, ← EReal.coe_mul, coe_sum']
    show ((Real.rpow 2 _ : ℝ) : EReal) = _
    congr 1
    rw [show ∀ y : ℝ, Real.rpow 2 y = Real.exp (Real.log 2 * y) from fun y => Real.rpow_def_of_pos (by norm_num) y]
    congr 1
    have hl : Real.log 2 ≠ 0 := (Real.log_pos (by norm_num)).ne'
    rw [Finset.mul_sum, Finset.sum_div, Finset.mul_sum]
    refine Finset.sum_congr rfl fun d _ => ?_
    field_simp
  · unfold simR
    rw [qr, qs]
    have pp : Real.sqrt (∑ d, r d * r d) * Real.sqrt (∑ d, s d * s d) ≠ 0 := (mul_pos pr ps).ne'
    simp only [sqrt_coe_pos hr, sqrt_coe_pos hs, ← EReal.coe_mul, coe_sum']
    rw [div_coe' pp, div_coe' (by norm_num : (1 : ℝ) / 2 ≠ 0)]
    show ((Real.exp _ : ℝ) : EReal) = _
    congr 2
    field_simp

/-- The two similarities are one number, a positive real, for rows that are not zero. -/
theorem sim_eq {n : ℕ} {z w : Fin n → EReal} (hz : 0 < sq z) (hw : 0 < sq w) :
    simK z w = simR z w ∧ ∃ r : ℝ, 0 < r ∧ simR z w = (r : EReal) := by
  by_cases h : sq z = ⊤ ∨ sq w = ⊤
  · exact ⟨(simK_top h).trans (simR_top hz hw h).symm, 1, one_pos, simR_top hz hw h⟩
  · push Not at h
    obtain ⟨r, rfl⟩ := exists_real h.1
    obtain ⟨s, rfl⟩ := exists_real h.2
    have e : ∀ f : Fin n → ℝ, sq (fun d => (f d : EReal)) = ((∑ d, f d * f d : ℝ) : EReal) := fun f => by
      unfold sq; rw [← coe_sum']; exact Finset.sum_congr rfl fun d _ => (EReal.coe_mul _ _).symm
    rw [e] at hz hw
    obtain ⟨a, b⟩ := sim_real r s (by exact_mod_cast hz) (by exact_mod_cast hw)
    exact ⟨a.trans b.symm, _, Real.exp_pos _, b⟩

/-- The loss of the two sums: the difference of logarithms is the negated logarithm of the quotient, when the first sum is a
    nonnegative real, the second is nonnegative and they are not both zero. -/
theorem loss_eq {p : ℝ} {q : EReal} (hp : 0 ≤ p) (hq : 0 ≤ q) (h : 0 < (p : EReal) + q) :
    Ideal.log ((p : EReal) + q) - Ideal.log (p : EReal) = -Ideal.log (Ideal.div (p : EReal) ((p : EReal) + q)) := by
  induction q with
  | bot => simp at hq
  | top =>
    rw [EReal.coe_add_top, div_top_any]
    have e0 : Ideal.log 0 = ⊥ := by
      show (if (0 : ℝ) ≤ 0 then (⊥ : EReal) else _) = ⊥
      rw [if_pos le_rfl]
    rw [e0, EReal.neg_bot, show Ideal.log ⊤ = ⊤ from rfl]
    show (⊤ : EReal) - (if p ≤ 0 then (⊥ : EReal) else (Real.log p : EReal)) = ⊤
    split_ifs
    · simp
    · simp
  | coe q =>
    rw [← EReal.coe_add] at h ⊢
    have ht : 0 < p + q := by exact_mod_cast h
    unfold Ideal.div
    rw [if_neg (by exact_mod_cast ht.ne'), ← EReal.coe_inv, ← EReal.coe_mul]
    show (if p + q ≤ 0 then (⊥ : EReal) else (Real.log (p + q) : EReal)) - (if p ≤ 0 then (⊥ : EReal) else (Real.log p : EReal))
      = -(if p * (p + q)⁻¹ ≤ 0 then (⊥ : EReal) else (Real.log (p * (p + q)⁻¹) : EReal))
    rw [if_neg ht.not_ge]
    rcases hp.eq_or_lt with rfl | hp'
    · rw [if_pos le_rfl, zero_mul, if_pos le_rfl]
      simp
    · rw [if_neg hp'.not_ge, if_neg (mul_pos hp' (inv_pos.mpr ht)).not_ge, Real.log_mul hp'.ne' (inv_pos.mpr ht).ne', Real.log_inv,
        ← EReal.coe_sub, ← EReal.coe_neg]
      congr 1
      ring

end Cert.Proof.Loss

end
-- ==== Proof.Value.Kernel.lean ====
/-
  The kernel's values at the ideal instance, element by element: the scaled rows, what a trip adds, and the sum of all trips
  as one double sum.
-/
module

public import proofs.«01_k».proof.Proof.KI.State
public import proofs.«01_k».proof.Proof.Value.Scalar
public import Idealize.ShloMosaic.Lib.Pointwise

@[expose] public section

set_option maxRecDepth 16384

noncomputable section

namespace Cert.Proof.Loss

open Cert.KernelIdeal Cert.KernelIdeal.Gen Cert.Proof.KI
open Idealize.ShloMosaic

/-- The kernel's spelling of the activation. -/
theorem elu_min (x : EReal) : (if 0 < x then x else Ideal.exp (min x 0) - 1) = elu x := by
  unfold elu
  split_ifs with h
  · rfl
  · rw [min_eq_left (not_lt.mp h)]

section Rows
variable (W : Vec Ideal S64x64 .f32) (B : Vec Ideal S1x64 .f32) (V : Vec Ideal S8192x64 .f32)

/-- The named factor at the ideal instance. -/
theorem factor : Named.named (F := Ideal) Cert.KernelIdeal.κ "two_log2e" (φ := .f32) 0x4038AA3B#32 = kap :=
  IdealRules.named_const.ideal_named_scalar _ _ _ _ rfl

/-- The first scratch array: the projected row over its norm, times the factor. -/
theorem z1_apply (r : Fin 8192) (d : Fin 64) :
    z1V (F := Ideal) W B V (ix2 r d)
      = proj W (fun d => B (ix2 0 d)) V r d * (Ideal.rsqrt (sq (proj W (fun d => B (ix2 0 d)) V r)) * kap) := by
  unfold z1V
  pointwise [k0_pay2, k0_pay1]
  simp only [elu_min, factor]
  rfl

/-- The second scratch array: the projected row over its norm. -/
theorem z2_apply (r : Fin 8192) (d : Fin 64) :
    z2V (F := Ideal) W B V (ix2 r d)
      = proj W (fun d => B (ix2 0 d)) V r d * Ideal.rsqrt (sq (proj W (fun d => B (ix2 0 d)) V r)) := by
  unfold z2V
  pointwise [k0_pay3, k0_pay4, k0_pay5, k0_pay1]
  simp only [elu_min]
  rfl

end Rows

/-- The global row of row `a` of a trip's row block, and the global column of column `b` of its column block. -/
def gRow (k : Fin 128) (a : Fin 256) : Fin 8192 := ⟨k.val / 4 * 256 + a.val, by omega⟩
def gCol (k : Fin 128) (b : Fin 2048) : Fin 8192 := ⟨k.val % 4 * 2048 + b.val, by omega⟩

/-- A load of whole rows at a row offset. -/
theorem ld_rows {n : ℕ} (Z : Vec Ideal S8192x64 .bf16) (off : Fin 2 → Nat) (o : ℕ) (h : off = ![o, 0])
    (inb : ∀ a, off a + (![n, 64] : Fin 2 → Nat) a ≤ S8192x64.size a) (a : Fin n) (d : Fin 64) (ho : o + a.val < 8192) :
    View.ld (Val := Elt Ideal) (e' := .bf16) Z (Rect.unit (s := S8192x64) off ![n, 64] inb) (ix2 a d) = Z (ix2 ⟨o + a.val, ho⟩ d) := by
  subst h
  refine congrArg Z (funext fun x => Fin.ext ?_)
  fin_cases x <;> simp [ix2, Rect.unit, LoadRect.idx]

/-- Trip `k`'s row block and column block. -/
theorem rows1_apply (Z : Vec Ideal S8192x64 .bf16) (k : Fin 128) (hk : k.val < k0_t1_loop.trips) (a : Fin 256) (d : Fin 64) :
    rows1 Z ⟨k.val, hk⟩ (ix2 a d) = Z (ix2 (gRow k a) d) :=
  ld_rows Z _ _ (off39_eq ⟨k.val, hk⟩) _ a d (gRow k a).isLt
theorem rows2_apply (Z : Vec Ideal S8192x64 .bf16) (k : Fin 128) (hk : k.val < k0_t1_loop.trips) (b : Fin 2048) (d : Fin 64) :
    rows2 Z ⟨k.val, hk⟩ (ix2 b d) = Z (ix2 (gCol k b) d) :=
  ld_rows Z _ _ (off40_eq ⟨k.val, hk⟩) _ b d (gCol k b).isLt

/-- Block `k` of a large array. -/
theorem blkV_apply (X : Vec Ideal S8192x8192 .f32) (k : Fin 128) (a : Fin 256) (b : Fin 2048) :
    blkV X k (ix3 0 a b) = X (ix2 (gRow k a) (gCol k b)) := by
  unfold blkV
  pointwise
  rfl

/-- The similarity of two scaled rows. -/
def cell (Z1 Z2 : Vec Ideal S8192x64 .bf16) (i j : Fin 8192) : EReal := Ideal.exp2 (∑ d, Z1 (ix2 i d) * Z2 (ix2 j d))

/-- What trip `k` adds to a running sum: the products over its block. -/
theorem accStep_apply (Z1 Z2 : Vec Ideal S8192x64 .bf16) (X : Vec Ideal S8192x8192 .f32) (k : Fin 128)
    (hk : k.val < k0_t1_loop.trips) (s : Ideal .f32) :
    accStep Z1 Z2 X ⟨k.val, hk⟩ s
      = s + ∑ a, ∑ b, cell Z1 Z2 (gRow k a) (gCol k b) * X (ix2 (gRow k a) (gCol k b)) := by
  have hb : Ring.bk 128 k.val = k := Fin.ext (Nat.mod_eq_of_lt k.isLt)
  unfold accStep
  rw [hb]
  pointwise [k0_pay7, k0_pay6]
  simp only [blkV_apply]
  refine congrArg (s + ·) (Finset.sum_congr rfl fun a _ => Finset.sum_congr rfl fun b _ => congrArg (· * X (ix2 (gRow k a) (gCol k b))) ?_)
  refine congrArg Ideal.exp2 (Finset.sum_congr rfl fun d _ => ?_)
  exact congrArg₂ (fun x y : EReal => x * y) (rows1_apply Z1 k hk a d) (rows2_apply Z2 k hk b d)

/-- The sum over 8192 rows, 256 at a time. -/
theorem sum_blocks (m n N : ℕ) (h : m * n = N) (f : Fin N → EReal) :
    ∑ p : Fin m, ∑ a : Fin n, f ⟨p.val * n + a.val, by
      have := p.isLt; have := a.isLt; rw [← h]; nlinarith⟩ = ∑ r, f r := by
  subst h
  rw [← Fintype.sum_prod_type', ← Equiv.sum_comp finProdFinEquiv f]
  refine Finset.sum_congr rfl fun x _ => congrArg f (Fin.ext ?_)
  simp [finProdFinEquiv, mul_comm, add_comm]

/-- The running sum after every trip is the sum over all rows and columns. -/
theorem accV_total (Z1 Z2 : Vec Ideal S8192x64 .bf16) (X : Vec Ideal S8192x8192 .f32) :
    accV Z1 Z2 X 128 = ∑ i, ∑ j, cell Z1 Z2 i j * X (ix2 i j) := by
  have hacc : ∀ n, (hn : n ≤ 128) → accV Z1 Z2 X n = ∑ k : Fin n, ∑ a, ∑ b,
      cell Z1 Z2 (gRow (k.castLE hn) a) (gCol (k.castLE hn) b) * X (ix2 (gRow (k.castLE hn) a) (gCol (k.castLE hn) b)) := by
    intro n
    induction n with
    | zero => intro _; simpa [accV] using Ideal.ofBits_zero_f32
    | succ n ih =>
      intro hn
      have hk : n < k0_t1_loop.trips := by rw [trips_eq]; omega
      rw [Fin.sum_univ_castSucc]
      refine ((accV_succ Z1 Z2 X ⟨n, hk⟩).trans (accStep_apply Z1 Z2 X ⟨n, by omega⟩ hk _)).trans ?_
      exact congrArg (· + _) (ih (by omega))
  rw [hacc 128 le_rfl]
  let g : Fin 8192 → Fin 8192 → EReal := fun i j => cell Z1 Z2 i j * X (ix2 i j)
  have e1 : ∀ (p : Fin 32) (q : Fin 4) (a : Fin 256) (b : Fin 2048),
      g (gRow ⟨p.val * 4 + q.val, by omega⟩ a) (gCol ⟨p.val * 4 + q.val, by omega⟩ b)
        = g ⟨p.val * 256 + a.val, by omega⟩ ⟨q.val * 2048 + b.val, by omega⟩ := by
    intro p q a b
    have h1 : (p.val * 4 + q.val) / 4 = p.val := by omega
    have h2 : (p.val * 4 + q.val) % 4 = q.val := by omega
    simp only [gRow, gCol, h1, h2]
  refine (sum_blocks 32 4 128 rfl (fun k => ∑ a, ∑ b, g (gRow k a) (gCol k b))).symm.trans ?_
  simp only [e1]
  refine (Finset.sum_congr rfl fun p _ => ?_).trans (sum_blocks 32 256 8192 rfl (fun i => ∑ j, g i j))
  rw [Finset.sum_comm]
  exact Finset.sum_congr rfl fun a _ => sum_blocks 4 2048 8192 rfl _

/-- What the kernel stores. -/
theorem outV_apply (Z1 Z2 : Vec Ideal S8192x64 .bf16) (X Y : Vec Ideal S8192x8192 .f32) :
    outV Z1 Z2 X Y = Ideal.log ((∑ i, ∑ j, cell Z1 Z2 i j * X (ix2 i j)) + ∑ i, ∑ j, cell Z1 Z2 i j * Y (ix2 i j))
      - Ideal.log (∑ i, ∑ j, cell Z1 Z2 i j * X (ix2 i j)) := by
  unfold outV
  rw [accV_total, accV_total]
  rfl

/-- The similarity of two scaled rows is the kernel's similarity of the projected rows. -/
theorem cell_eq (W : Vec Ideal S64x64 .f32) (B : Vec Ideal S1x64 .f32) (V1 V2 : Vec Ideal S8192x64 .f32) (i j : Fin 8192) :
    cell (z1V W B V1) (z2V W B V2) i j
      = simK (proj W (fun d => B (ix2 0 d)) V1 i) (proj W (fun d => B (ix2 0 d)) V2 j) := by
  unfold cell simK
  simp only [z1_apply, z2_apply]

end Cert.Proof.Loss

end
-- ==== Proof.Value.Ref.lean ====
/-
  The reference's result and the precondition at the ideal instance.
-/
module

public import proofs.«01_k».proof.Proof.Gen.ReferenceIdeal.Run
public import proofs.«01_k».proof.Proof.Gen.Pre_well_posed
public import Idealize.ShloMosaic.Lib.Pointwise
public import proofs.«01_k».proof.Proof.Value.Scalar

@[expose] public section

set_option maxRecDepth 16384

noncomputable section

namespace Cert.Proof.Loss

open Cert.ReferenceIdeal Cert.ReferenceIdeal.Gen Cert.ReferenceIdeal.Value
open Idealize.ShloMosaic Idealize.ShloMosaic.TcCoe Idealize.SL.Sem

/-- The reference's spelling of the activation. -/
theorem elu_masked (x : EReal) :
    (if 0 < x then x
      else Ideal.exp (if 0 < x then id (constant (F := Ideal) S_ .f32 0x00000000#32) ix0 else x) - 1) = elu x := by
  unfold elu
  split_ifs with h
  · rfl
  · rfl

/-- The reference's result: the negated logarithm of the quotient of the two sums. -/
theorem ref_apply (m : (ℓ : Loc nD τ sig) → Buf (Elt Ideal) ℓ) (c : Dev nD) (W : (⟨2, ![64, 64]⟩ : Shape).Idx → EReal)
    (b : (⟨1, ![64]⟩ : Shape).Idx → EReal) (V1 V2 : (⟨2, ![8192, 64]⟩ : Shape).Idx → EReal)
    (X Y : (⟨2, ![8192, 8192]⟩ : Shape).Idx → EReal)
    (h0 : m ((c.tc : Thread nD τ).loc main_arg0) = V1) (h1 : m ((c.tc : Thread nD τ).loc main_arg1) = V2)
    (h2 : m ((c.tc : Thread nD τ).loc main_arg2) = X) (h3 : m ((c.tc : Thread nD τ).loc main_arg3) = Y)
    (h4 : m ((c.tc : Thread nD τ).loc main_arg4) = W) (h5 : m ((c.tc : Thread nD τ).loc main_arg5) = b) :
    res_main_v29 m c ix0
      = -Ideal.log (Ideal.div
          (∑ i, ∑ j, simR (proj W (fun d => b (ix1 d)) V1 i) (proj W (fun d => b (ix1 d)) V2 j) * X (ix2 i j))
          (∑ i, ∑ j, (simR (proj W (fun d => b (ix1 d)) V1 i) (proj W (fun d => b (ix1 d)) V2 j) * X (ix2 i j)
            + simR (proj W (fun d => b (ix1 d)) V1 i) (proj W (fun d => b (ix1 d)) V2 j) * Y (ix2 i j)))) := by
  unfold res_main_v29
  rw [h0, h1, h2, h3, h4, h5]
  pointwise
  simp only [elu_masked, half_bits, Fin.sum_univ_one]
  rfl

/-- What the precondition says. -/
theorem pre_apply (v1 v2 : FVec Ideal S8192x64 .f32) (pos neg : FVec Ideal S8192x8192 .f32) (W : FVec Ideal S64x64 .f32)
    (b : FVec Ideal S64 .f32) (i j : Fin 8192) (h : Cert.Pre_well_posed.fn v1 v2 pos neg W b (ix2 i j) = 1#1) :
    0 < sq (lin W (fun d => b (ix1 d)) v1 i) ∧ 0 < sq (lin W (fun d => b (ix1 d)) v2 j) ∧ (0 : EReal) ≤ pos (ix2 i j)
      ∧ (pos (ix2 i j) : EReal) < ⊤ ∧ (0 : EReal) ≤ neg (ix2 i j) ∧ (0 : EReal) < ∑ i, ∑ j, (pos (ix2 i j) + neg (ix2 i j)) := by
  have bit : ∀ p q : BitVec 1, IntOp.andi p q = 1#1 → p = 1#1 ∧ q = 1#1 := by decide
  have dec : ∀ (p : Prop) [Decidable p], BitVec.ofBool (decide p) = 1#1 → p := fun p _ e => by
    by_contra hp
    rw [decide_eq_false hp] at e
    exact absurd e (by decide)
  revert h
  pointwise [Cert.Pre_well_posed.fn, Cert.Pre_well_posed.fn_part1]
  rw [inf_bits]
  intro h
  obtain ⟨h, h6⟩ := bit _ _ h
  obtain ⟨h, h5⟩ := bit _ _ h
  obtain ⟨h, h4⟩ := bit _ _ h
  obtain ⟨h, h3⟩ := bit _ _ h
  obtain ⟨h1, h2⟩ := bit _ _ h
  exact ⟨dec _ h1, dec _ h2, dec _ h3, dec _ h4, dec _ h5, dec _ h6⟩

end Cert.Proof.Loss

end
-- ==== Proof.Value.Algebraic.lean ====
/- The value claim: on arguments satisfying the precondition the kernel and the reference end with the same loss. -/
module

public import proofs.«01_k».proof.Defs
public import proofs.«01_k».proof.Proof.KI.Result
public import proofs.«01_k».proof.Proof.Value.Kernel
public import proofs.«01_k».proof.Proof.Value.Ref

@[expose] public section

noncomputable section

namespace Cert.Proof.Loss

open Idealize.ShloMosaic Idealize.SL.Sem

/-- A double sum of terms that are not negative is not negative. -/
theorem sum2_nonneg {n : ℕ} {T : Fin n → Fin n → EReal} (h : ∀ i j, 0 ≤ T i j) : 0 ≤ ∑ i, ∑ j, T i j :=
  Finset.sum_nonneg fun i _ => Finset.sum_nonneg fun j _ => h i j

/-- A double sum of terms that are not negative, one of them positive, is positive. -/
theorem sum2_pos {n : ℕ} {T : Fin n → Fin n → EReal} (h : ∀ i j, 0 ≤ T i j) {i j : Fin n} (hij : 0 < T i j) :
    0 < ∑ i, ∑ j, T i j :=
  calc 0 < T i j := hij
    _ ≤ ∑ j, T i j := Finset.single_le_sum (f := T i) (fun j _ => h i j) (Finset.mem_univ j)
    _ ≤ ∑ i, ∑ j, T i j := Finset.single_le_sum (f := fun i => ∑ j, T i j)
        (fun i _ => Finset.sum_nonneg fun j _ => h i j) (Finset.mem_univ i)

/-- With positive real weights `S`, finite masks `X` and masks `Y`, neither negative and not all zero, the difference of
    logarithms the kernel takes is the negated logarithm of the quotient the reference takes. -/
theorem loss_sum {n : ℕ} (S X Y : Fin n → Fin n → EReal) (hS : ∀ i j, ∃ r : ℝ, 0 < r ∧ S i j = r)
    (hX : ∀ i j, 0 ≤ X i j) (hX' : ∀ i j, X i j < ⊤) (hY : ∀ i j, 0 ≤ Y i j) (hXY : 0 < ∑ i, ∑ j, (X i j + Y i j)) :
    Ideal.log ((∑ i, ∑ j, S i j * X i j) + ∑ i, ∑ j, S i j * Y i j) - Ideal.log (∑ i, ∑ j, S i j * X i j)
      = -Ideal.log (Ideal.div (∑ i, ∑ j, S i j * X i j) (∑ i, ∑ j, (S i j * X i j + S i j * Y i j))) := by
  have hS0 : ∀ i j, 0 < S i j := fun i j => by
    obtain ⟨r, hr, e⟩ := hS i j
    rw [e]
    exact EReal.coe_pos.mpr hr
  have hsx : ∀ i j, 0 ≤ S i j * X i j := fun i j => EReal.mul_nonneg (hS0 i j).le (hX i j)
  have hsy : ∀ i j, 0 ≤ S i j * Y i j := fun i j => EReal.mul_nonneg (hS0 i j).le (hY i j)
  have hreal : ∀ i j, ∃ t : ℝ, S i j * X i j = t := fun i j => by
    obtain ⟨r, _, e⟩ := hS i j
    refine ⟨r * (X i j).toReal, ?_⟩
    rw [e, EReal.coe_mul, EReal.coe_toReal (hX' i j).ne (ne_of_gt (lt_of_lt_of_le EReal.bot_lt_zero (hX i j)))]
  choose t ht using hreal
  have hp : ∑ i, ∑ j, S i j * X i j = ((∑ i, ∑ j, t i j : ℝ) : EReal) := by
    simp only [ht, coe_sum']
  have hsplit : ∑ i, ∑ j, (S i j * X i j + S i j * Y i j) = (∑ i, ∑ j, S i j * X i j) + ∑ i, ∑ j, S i j * Y i j := by
    simp only [Finset.sum_add_distrib]
  have hpos : 0 < ∑ i, ∑ j, (S i j * X i j + S i j * Y i j) := by
    have hex : ∃ i j, X i j + Y i j ≠ 0 := by
      by_contra hall
      push Not at hall
      simp [hall] at hXY
    obtain ⟨i, j, hij⟩ := hex
    refine sum2_pos (fun i j => add_nonneg (hsx i j) (hsy i j)) (i := i) (j := j) ?_
    rcases (hX i j).lt_or_eq with hx | hx
    · exact lt_of_lt_of_le (EReal.mul_pos (hS0 i j) hx) (le_add_of_nonneg_right (hsy i j))
    · have hy : 0 < Y i j := lt_of_le_of_ne (hY i j) fun e => hij (by rw [← hx, ← e, add_zero])
      exact lt_of_lt_of_le (EReal.mul_pos (hS0 i j) hy) (le_add_of_nonneg_left (hsx i j))
  rw [hsplit] at hpos ⊢
  rw [hp] at hpos ⊢
  exact loss_eq (EReal.coe_nonneg.mp (hp ▸ sum2_nonneg hsx)) (sum2_nonneg hsy) hpos

/-- The row the kernel adds is the bias. -/
theorem bias_apply (m : (ℓ : Loc Cert.KernelIdeal.nD Cert.KernelIdeal.τ Cert.KernelIdeal.sig) → Buf (Elt Ideal) ℓ)
    (c : Dev Cert.KernelIdeal.nD) (d : Fin 64) : KI.aB2 m c (ix2 0 d) = KI.aB m c (ix1 d) := by
  pointwise

/-- Under the precondition the kernel's loss is the reference's on the same arguments. -/
theorem loss_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_well_posed.fn (F := Ideal) (KI.aV1 m c) (KI.aV2 m c) (KI.aPos m c) (KI.aNeg m c) (KI.aW m c) (KI.aB m c)
      = fun _ => 1#1)
    (h0 : m' ((c.tc : Thread Cert.ReferenceIdeal.nD Cert.ReferenceIdeal.τ).loc Cert.ReferenceIdeal.main_arg0) = KI.aV1 m c)
    (h1 : m' ((c.tc : Thread Cert.ReferenceIdeal.nD Cert.ReferenceIdeal.τ).loc Cert.ReferenceIdeal.main_arg1) = KI.aV2 m c)
    (h2 : m' ((c.tc : Thread Cert.ReferenceIdeal.nD Cert.ReferenceIdeal.τ).loc Cert.ReferenceIdeal.main_arg2) = KI.aPos m c)
    (h3 : m' ((c.tc : Thread Cert.ReferenceIdeal.nD Cert.ReferenceIdeal.τ).loc Cert.ReferenceIdeal.main_arg3) = KI.aNeg m c)
    (h4 : m' ((c.tc : Thread Cert.ReferenceIdeal.nD Cert.ReferenceIdeal.τ).loc Cert.ReferenceIdeal.main_arg4) = KI.aW m c)
    (h5 : m' ((c.tc : Thread Cert.ReferenceIdeal.nD Cert.ReferenceIdeal.τ).loc Cert.ReferenceIdeal.main_arg5) = KI.aB m c) :
    Cert.ReferenceIdeal.Value.res_main_v29 m' c ix0 = KI.resultWord m c := by
  have hp := fun i j : Fin 8192 => pre_apply _ _ _ _ _ _ i j (congrFun hpre (ix2 i j))
  have hsim := fun i j : Fin 8192 => sim_eq (sq_elu_pos (hp i j).1) (sq_elu_pos (hp i j).2.1)
  rw [ref_apply m' c _ _ _ _ _ _ h0 h1 h2 h3 h4 h5]
  unfold KI.resultWord
  rw [outV_apply]
  have hcell : ∀ i j : Fin 8192, cell (KI.z1V (KI.aW m c) (KI.aB2 m c) (KI.aV1 m c)) (KI.z2V (KI.aW m c) (KI.aB2 m c) (KI.aV2 m c)) i j
      = simR (proj (KI.aW m c) (fun d => KI.aB m c (ix1 d)) (KI.aV1 m c) i)
          (proj (KI.aW m c) (fun d => KI.aB m c (ix1 d)) (KI.aV2 m c) j) := fun i j => by
    rw [cell_eq, funext (bias_apply m c)]
    exact (hsim i j).1
  simp only [hcell]
  exact (loss_sum _ _ _ (fun i j => (hsim i j).2) (fun i j => (hp i j).2.2.1) (fun i j => (hp i j).2.2.2.1)
    (fun i j => (hp i j).2.2.2.2.1) (hp 0 0).2.2.2.2.2).symm

/-- The kernel and the reference end with the same loss wherever the loss is well posed. -/
theorem same_loss : Cert.algebraic_KernelIdeal_ReferenceIdeal_pre_well_posed := by
  intro m g m' g' hpre hargs
  refine ⟨fun c => fun _ => KI.resultWord m c, KI.run_value m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5⟩ := hargs c
  funext i
  have hi : i = (ix0 : (⟨0, ![]⟩ : Shape).Idx) := funext fun a : Fin 0 => a.elim0
  exact (congrArg _ hi).trans <|
    loss_value m m' c (hpre c) h0 h1 h2 h3 h4 h5

end Cert.Proof.Loss

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_well_posed
public import proofs.«01_k».proof.Proof.Claims
public import proofs.«01_k».proof.Proof.Value.Algebraic

@[expose] public section

noncomputable section

namespace Cert.Proof

/-- The frames, with and without the precondition, the named constant, and the equality of the two losses. -/
theorem claim : Cert.Claim :=
  ⟨Cert.Kernel.Gen.facts, Cert.KernelIdeal.Gen.facts, Cert.ReferenceIdeal.Gen.facts, Cert.Pre_well_posed.Gen.facts,
    frame_kernel, frame_kernelIdeal, fun m ρ _ => frame_kernelIdeal m ρ trivial,
    frame_referenceIdeal, fun m ρ _ => frame_referenceIdeal m ρ trivial, named_factor, Loss.same_loss⟩

end Cert.Proof

end
